-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_sqrt_32" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x2880 : Shape := ⟨3, ![2, 128, 2880]⟩
abbrev S7680x2880 : Shape := ⟨2, ![7680, 2880]⟩
abbrev S_ : Shape := ⟨0, ![]⟩

class Facts : Prop where
  bcast_S_S2x128x2880 : S_.BroadcastsInDim S2x128x2880 (![] : Fin 0 → Fin S2x128x2880.rank)
  bcast_S_S7680x2880 : S_.BroadcastsInDim S7680x2880 (![] : Fin 0 → Fin S7680x2880.rank)

variable [Facts]

def fn {F : FTy → Type} [FloatOps F] (main_arg0 : FVec F S2x128x2880 .bf16) (main_arg1 : FVec F S7680x2880 .bf16) : IVec S2x128x2880 1 × IVec S7680x2880 1 :=
  let main_v0 : FVec F S2x128x2880 .bf16 := Host.absf main_arg0
  let main_cst : FVec F S_ .bf16 := constant S_ .bf16 0x7F80#16
  let main_v1 : FVec F S2x128x2880 .bf16 := broadcastInDim S2x128x2880 ![] bcast_S_S2x128x2880 main_cst
  let main_v2 : IVec S2x128x2880 1 := cmpf .olt main_v0 main_v1
  let main_v3 : FVec F S7680x2880 .bf16 := Host.absf main_arg1
  let main_cst_0 : FVec F S_ .bf16 := constant S_ .bf16 0x7F80#16
  let main_v4 : FVec F S7680x2880 .bf16 := broadcastInDim S7680x2880 ![] bcast_S_S7680x2880 main_cst_0
  let main_v5 : IVec S7680x2880 1 := cmpf .olt main_v3 main_v4
  (main_v2, main_v5)
-- ==== Kernel.lean ====
abbrev S2x128x2880 : Shape := ⟨3, ![2, 128, 2880]⟩
abbrev S7680x2880 : Shape := ⟨2, ![7680, 2880]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x2880 : Shape := ⟨2, ![256, 2880]⟩
abbrev S256x7680 : Shape := ⟨2, ![256, 7680]⟩
abbrev S256x360 : Shape := ⟨2, ![256, 360]⟩
abbrev S7680x360 : Shape := ⟨2, ![7680, 360]⟩
abbrev S256x1440 : Shape := ⟨2, ![256, 1440]⟩
abbrev S256x90 : Shape := ⟨2, ![256, 90]⟩
abbrev S7680x1440 : Shape := ⟨2, ![7680, 1440]⟩
abbrev S7680x90 : Shape := ⟨2, ![7680, 90]⟩
abbrev S8x32x256 : Shape := ⟨3, ![8, 32, 256]⟩
abbrev S8x256 : Shape := ⟨2, ![8, 256]⟩
abbrev S8x1x256 : Shape := ⟨3, ![8, 1, 256]⟩
abbrev S32x8x256 : Shape := ⟨3, ![32, 8, 256]⟩
abbrev S32x1x256 : Shape := ⟨3, ![32, 1, 256]⟩
abbrev S32x256 : Shape := ⟨2, ![32, 256]⟩
abbrev S128x256 : Shape := ⟨2, ![128, 256]⟩
abbrev S256x128 : Shape := ⟨2, ![256, 128]⟩
abbrev S256x64 : Shape := ⟨2, ![256, 64]⟩
abbrev S64x64 : Shape := ⟨2, ![64, 64]⟩
abbrev S64x256 : Shape := ⟨2, ![64, 256]⟩
abbrev S2x32x256 : Shape := ⟨3, ![2, 32, 256]⟩
abbrev S2x256 : Shape := ⟨2, ![2, 256]⟩
abbrev S2x1x256 : Shape := ⟨3, ![2, 1, 256]⟩
abbrev S8x8x256 : Shape := ⟨3, ![8, 8, 256]⟩
abbrev S256x32 : Shape := ⟨2, ![256, 32]⟩
abbrev S360x256 : Shape := ⟨2, ![360, 256]⟩
abbrev S90x256 : Shape := ⟨2, ![90, 256]⟩

abbrev nBuf : Space → Nat
  | .hbm => 76
  | .vmem => 16
  | .smem => 0
  | _ => 0

abbrev bufTy : (tb : Table) → Fin (tcTables nBuf tb) → BufTy
  | .hbm, ⟨0, _⟩ => ⟨S2x128x2880, .bf16⟩
  | .hbm, ⟨1, _⟩ => ⟨S7680x2880, .bf16⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x1, .i32⟩
  | .hbm, ⟨16, _⟩ => ⟨S_, .i32⟩
  | .hbm, ⟨17, _⟩ => ⟨S_, .i32⟩
  | .hbm, ⟨18, _⟩ => ⟨S256x1, .i32⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S1x256, .i32⟩
  | .hbm, ⟨35, _⟩ => ⟨S_, .i32⟩
  | .hbm, ⟨36, _⟩ => ⟨S_, .i32⟩
  | .hbm, ⟨37, _⟩ => ⟨S1x256, .i32⟩
  | .hbm, ⟨38, _⟩ => ⟨S1x256, .i32⟩
  | .hbm, ⟨39, _⟩ => ⟨S1x256, .i32⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S1x256, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x256, .i1⟩
  | .hbm, ⟨49, _⟩ => ⟨S_, .i32⟩
  | .hbm, ⟨50, _⟩ => ⟨S1x256, .i32⟩
  | .hbm, ⟨51, _⟩ => ⟨S1x256, .i32⟩
  | .hbm, ⟨52, _⟩ => ⟨S1x256, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S_, .f32⟩
  | .hbm, ⟨60, _⟩ => ⟨S_, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .bf16⟩
  | .hbm, ⟨68, _⟩ => ⟨S256x2880, .bf16⟩
  | .hbm, ⟨69, _⟩ => ⟨S256x7680, .bf16⟩
  | .hbm, ⟨70, _⟩ => ⟨S256x360, .i8⟩
  | .hbm, ⟨71, _⟩ => ⟨S7680x360, .i8⟩
  | .hbm, ⟨72, _⟩ => ⟨S256x1440, .i8⟩
  | .hbm, ⟨73, _⟩ => ⟨S256x90, .i8⟩
  | .hbm, ⟨74, _⟩ => ⟨S7680x1440, .i8⟩
  | .hbm, ⟨75, _⟩ => ⟨S7680x90, .i8⟩
  | .local _ .vmem, ⟨0, _⟩ => ⟨S256x256, .bf16⟩
  | .local _ .vmem, ⟨1, _⟩ => ⟨S256x2880, .bf16⟩
  | .local _ .vmem, ⟨2, _⟩ => ⟨S256x2880, .bf16⟩
  | .local _ .vmem, ⟨3, _⟩ => ⟨S256x2880, .bf16⟩
  | .local _ .vmem, ⟨4, _⟩ => ⟨S256x256, .bf16⟩
  | .local _ .vmem, ⟨5, _⟩ => ⟨S256x256, .bf16⟩
  | .local _ .vmem, ⟨6, _⟩ => ⟨S256x360, .i8⟩
  | .local _ .vmem, ⟨7, _⟩ => ⟨S256x360, .i8⟩
  | .local _ .vmem, ⟨8, _⟩ => ⟨S256x360, .i8⟩
  | .local _ .vmem, ⟨9, _⟩ => ⟨S256x1440, .i8⟩
  | .local _ .vmem, ⟨10, _⟩ => ⟨S256x90, .i8⟩
  | .local _ .vmem, ⟨11, _⟩ => ⟨S256x1440, .i8⟩
  | .local _ .vmem, ⟨12, _⟩ => ⟨S256x1440, .i8⟩
  | .local _ .vmem, ⟨13, _⟩ => ⟨S256x90, .i8⟩
  | .local _ .vmem, ⟨14, _⟩ => ⟨S256x90, .i8⟩
  | .local _ .vmem, ⟨15, _⟩ => ⟨S256x2880, .bf16⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_cst : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_v20 : Ref sig .tc := ⟨.hbm, 63, rfl⟩
abbrev main_cst_5 : Ref sig .tc := ⟨.hbm, 64, rfl⟩
abbrev main_call3_v0 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24_0 : Ref sig .tc := ⟨.hbm, 69, rfl⟩
abbrev main_v24_1 : Ref sig .tc := ⟨.hbm, 70, rfl⟩
abbrev main_v24_2 : Ref sig .tc := ⟨.hbm, 71, rfl⟩
abbrev main_v24_3 : Ref sig .tc := ⟨.hbm, 72, rfl⟩
abbrev main_v24_4 : Ref sig .tc := ⟨.hbm, 73, rfl⟩
abbrev main_v24_5 : Ref sig .tc := ⟨.hbm, 74, rfl⟩
abbrev main_v24_6 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2880 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x360 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x360 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1440 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x90 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1440 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x90 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_sqrt_32" => some (((Real.sqrt 32)⁻¹ : ℝ) : EReal)
  | _ => none
-- ==== ReferenceIdeal.lean ====
abbrev S2x128x2880 : Shape := ⟨3, ![2, 128, 2880]⟩
abbrev S7680x2880 : Shape := ⟨2, ![7680, 2880]⟩
abbrev S256x2880 : Shape := ⟨2, ![256, 2880]⟩
abbrev S256x90x32 : Shape := ⟨3, ![256, 90, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S256x90 : Shape := ⟨2, ![256, 90]⟩
abbrev S256x90x1 : Shape := ⟨3, ![256, 90, 1]⟩
abbrev S7680x90x32 : Shape := ⟨3, ![7680, 90, 32]⟩
abbrev S7680x90 : Shape := ⟨2, ![7680, 90]⟩
abbrev S7680x90x1 : Shape := ⟨3, ![7680, 90, 1]⟩
abbrev S256x7680 : Shape := ⟨2, ![256, 7680]⟩

abbrev nBuf : Space → Nat
  | .hbm => 259
  | .vmem => 0
  | .smem => 0
  | _ => 0

abbrev hbmTy0_0 (i : Nat) : BufTy := match i % 128 with
  | 0 => ⟨S2x128x2880, .bf16⟩
  | 1 => ⟨S7680x2880, .bf16⟩
  | 2 => ⟨S256x2880, .bf16⟩
  | 3 => ⟨S256x90x32, .bf16⟩
  | 4 => ⟨S32, .i32⟩
  | 5 => ⟨S32x1, .i32⟩
  | 6 => ⟨S1x32, .i32⟩
  | 7 => ⟨S32x32, .i32⟩
  | 8 => ⟨S32x32, .i32⟩
  | 9 => ⟨S32x32, .i32⟩
  | 10 => ⟨S32x32, .i32⟩
  | 11 => ⟨S_, .i32⟩
  | 12 => ⟨S32x32, .i32⟩
  | 13 => ⟨S32x32, .i32⟩
  | 14 => ⟨S_, .i32⟩
  | 15 => ⟨S32x32, .i32⟩
  | 16 => ⟨S32x32, .i1⟩
  | 17 => ⟨S_, .f32⟩
  | 18 => ⟨S_, .f32⟩
  | 19 => ⟨S32x32, .f32⟩
  | 20 => ⟨S32x32, .f32⟩
  | 21 => ⟨S32x32, .f32⟩
  | 22 => ⟨S32x32, .bf16⟩
  | 23 => ⟨S256x90x32, .f32⟩
  | 24 => ⟨S_, .f32⟩
  | 25 => ⟨S_, .f32⟩
  | 26 => ⟨S256x90x32, .f32⟩
  | 27 => ⟨S256x90x32, .f32⟩
  | 28 => ⟨S256x90x32, .f32⟩
  | 29 => ⟨S_, .f32⟩
  | 30 => ⟨S256x90, .f32⟩
  | 31 => ⟨S_, .f32⟩
  | 32 => ⟨S256x90, .f32⟩
  | 33 => ⟨S256x90, .f32⟩
  | 34 => ⟨S256x90, .f32⟩
  | 35 => ⟨S_, .f32⟩
  | 36 => ⟨S256x90, .f32⟩
  | 37 => ⟨S256x90, .f32⟩
  | 38 => ⟨S_, .f32⟩
  | 39 => ⟨S256x90, .f32⟩
  | 40 => ⟨S256x90, .f32⟩
  | 41 => ⟨S256x90, .f32⟩
  | 42 => ⟨S_, .f32⟩
  | 43 => ⟨S_, .f32⟩
  | 44 => ⟨S256x90, .f32⟩
  | 45 => ⟨S256x90, .f32⟩
  | 46 => ⟨S256x90, .f32⟩
  | 47 => ⟨S_, .f32⟩
  | 48 => ⟨S_, .f32⟩
  | 49 => ⟨S_, .f32⟩
  | 50 => ⟨S256x90, .f32⟩
  | 51 => ⟨S256x90, .f32⟩
  | 52 => ⟨S_, .f32⟩
  | 53 => ⟨S256x90, .f32⟩
  | 54 => ⟨S256x90, .f32⟩
  | 55 => ⟨S_, .f32⟩
  | 56 => ⟨S256x90, .f32⟩
  | 57 => ⟨S256x90, .i1⟩
  | 58 => ⟨S_, .f32⟩
  | 59 => ⟨S_, .f32⟩
  | 60 => ⟨S256x90, .f32⟩
  | 61 => ⟨S256x90, .f32⟩
  | 62 => ⟨S_, .f32⟩
  | 63 => ⟨S256x90, .f32⟩
  | 64 => ⟨S256x90, .f32⟩
  | 65 => ⟨S256x90, .i32⟩
  | 66 => ⟨S256x90, .i8⟩
  | 67 => ⟨S_, .f32⟩
  | 68 => ⟨S256x90, .f32⟩
  | 69 => ⟨S256x90, .i1⟩
  | 70 => ⟨S256x90, .f32⟩
  | 71 => ⟨S_, .f32⟩
  | 72 => ⟨S256x90, .f32⟩
  | 73 => ⟨S256x90, .f32⟩
  | 74 => ⟨S_, .f32⟩
  | 75 => ⟨S_, .f32⟩
  | 76 => ⟨S256x90, .f32⟩
  | 77 => ⟨S256x90, .f32⟩
  | 78 => ⟨S_, .f32⟩
  | 79 => ⟨S256x90, .f32⟩
  | 80 => ⟨S256x90, .i1⟩
  | 81 => ⟨S_, .f32⟩
  | 82 => ⟨S256x90, .f32⟩
  | 83 => ⟨S256x90, .f32⟩
  | 84 => ⟨S_, .f32⟩
  | 85 => ⟨S_, .f32⟩
  | 86 => ⟨S256x90, .f32⟩
  | 87 => ⟨S256x90, .f32⟩
  | 88 => ⟨S256x90, .bf16⟩
  | 89 => ⟨S256x90x1, .f32⟩
  | 90 => ⟨S256x90x32, .f32⟩
  | 91 => ⟨S256x90x32, .f32⟩
  | 92 => ⟨S_, .f32⟩
  | 93 => ⟨S_, .f32⟩
  | 94 => ⟨S_, .f32⟩
  | 95 => ⟨S256x90x32, .f32⟩
  | 96 => ⟨S256x90x32, .f32⟩
  | 97 => ⟨S_, .f32⟩
  | 98 => ⟨S256x90x32, .f32⟩
  | 99 => ⟨S256x90x32, .f32⟩
  | 100 => ⟨S256x90x32, .f32⟩
  | 101 => ⟨S_, .f32⟩
  | 102 => ⟨S256x90x32, .f32⟩
  | 103 => ⟨S256x90x32, .i1⟩
  | 104 => ⟨S_, .f32⟩
  | 105 => ⟨S256x90x32, .f32⟩
  | 106 => ⟨S256x90x32, .i1⟩
  | 107 => ⟨S_, .f32⟩
  | 108 => ⟨S_, .f32⟩
  | 109 => ⟨S256x90x32, .f32⟩
  | 110 => ⟨S256x90x32, .f32⟩
  | 111 => ⟨S256x90x32, .f32⟩
  | 112 => ⟨S_, .f32⟩
  | 113 => ⟨S256x90x32, .f32⟩
  | 114 => ⟨S256x90x32, .f32⟩
  | 115 => ⟨S256x90x32, .f32⟩
  | 116 => ⟨S256x90x32, .f32⟩
  | 117 => ⟨S256x90x32, .f32⟩
  | 118 => ⟨S_, .f32⟩
  | 119 => ⟨S256x90x32, .f32⟩
  | 120 => ⟨S256x90x32, .f32⟩
  | 121 => ⟨S256x90x32, .f32⟩
  | 122 => ⟨S256x90x32, .f32⟩
  | 123 => ⟨S256x90x32, .f32⟩
  | 124 => ⟨S256x90x32, .f32⟩
  | 125 => ⟨S256x90x32, .bf16⟩
  | 126 => ⟨S256x90x1, .bf16⟩
  | 127 => ⟨S256x90x32, .bf16⟩
  | _ => ⟨S2x128x2880, .bf16⟩

abbrev hbmTy0_1 (i : Nat) : BufTy := match i % 128 with
  | 0 => ⟨S256x90x32, .bf16⟩
  | 1 => ⟨S256x2880, .bf16⟩
  | 2 => ⟨S7680x90x32, .bf16⟩
  | 3 => ⟨S32, .i32⟩
  | 4 => ⟨S32x1, .i32⟩
  | 5 => ⟨S1x32, .i32⟩
  | 6 => ⟨S32x32, .i32⟩
  | 7 => ⟨S32x32, .i32⟩
  | 8 => ⟨S32x32, .i32⟩
  | 9 => ⟨S32x32, .i32⟩
  | 10 => ⟨S_, .i32⟩
  | 11 => ⟨S32x32, .i32⟩
  | 12 => ⟨S32x32, .i32⟩
  | 13 => ⟨S_, .i32⟩
  | 14 => ⟨S32x32, .i32⟩
  | 15 => ⟨S32x32, .i1⟩
  | 16 => ⟨S_, .f32⟩
  | 17 => ⟨S_, .f32⟩
  | 18 => ⟨S32x32, .f32⟩
  | 19 => ⟨S32x32, .f32⟩
  | 20 => ⟨S32x32, .f32⟩
  | 21 => ⟨S32x32, .bf16⟩
  | 22 => ⟨S7680x90x32, .f32⟩
  | 23 => ⟨S_, .f32⟩
  | 24 => ⟨S_, .f32⟩
  | 25 => ⟨S7680x90x32, .f32⟩
  | 26 => ⟨S7680x90x32, .f32⟩
  | 27 => ⟨S7680x90x32, .f32⟩
  | 28 => ⟨S_, .f32⟩
  | 29 => ⟨S7680x90, .f32⟩
  | 30 => ⟨S_, .f32⟩
  | 31 => ⟨S7680x90, .f32⟩
  | 32 => ⟨S7680x90, .f32⟩
  | 33 => ⟨S7680x90, .f32⟩
  | 34 => ⟨S_, .f32⟩
  | 35 => ⟨S7680x90, .f32⟩
  | 36 => ⟨S7680x90, .f32⟩
  | 37 => ⟨S_, .f32⟩
  | 38 => ⟨S7680x90, .f32⟩
  | 39 => ⟨S7680x90, .f32⟩
  | 40 => ⟨S7680x90, .f32⟩
  | 41 => ⟨S_, .f32⟩
  | 42 => ⟨S_, .f32⟩
  | 43 => ⟨S7680x90, .f32⟩
  | 44 => ⟨S7680x90, .f32⟩
  | 45 => ⟨S7680x90, .f32⟩
  | 46 => ⟨S_, .f32⟩
  | 47 => ⟨S_, .f32⟩
  | 48 => ⟨S_, .f32⟩
  | 49 => ⟨S7680x90, .f32⟩
  | 50 => ⟨S7680x90, .f32⟩
  | 51 => ⟨S_, .f32⟩
  | 52 => ⟨S7680x90, .f32⟩
  | 53 => ⟨S7680x90, .f32⟩
  | 54 => ⟨S_, .f32⟩
  | 55 => ⟨S7680x90, .f32⟩
  | 56 => ⟨S7680x90, .i1⟩
  | 57 => ⟨S_, .f32⟩
  | 58 => ⟨S_, .f32⟩
  | 59 => ⟨S7680x90, .f32⟩
  | 60 => ⟨S7680x90, .f32⟩
  | 61 => ⟨S_, .f32⟩
  | 62 => ⟨S7680x90, .f32⟩
  | 63 => ⟨S7680x90, .f32⟩
  | 64 => ⟨S7680x90, .i32⟩
  | 65 => ⟨S7680x90, .i8⟩
  | 66 => ⟨S_, .f32⟩
  | 67 => ⟨S7680x90, .f32⟩
  | 68 => ⟨S7680x90, .i1⟩
  | 69 => ⟨S7680x90, .f32⟩
  | 70 => ⟨S_, .f32⟩
  | 71 => ⟨S7680x90, .f32⟩
  | 72 => ⟨S7680x90, .f32⟩
  | 73 => ⟨S_, .f32⟩
  | 74 => ⟨S_, .f32⟩
  | 75 => ⟨S7680x90, .f32⟩
  | 76 => ⟨S7680x90, .f32⟩
  | 77 => ⟨S_, .f32⟩
  | 78 => ⟨S7680x90, .f32⟩
  | 79 => ⟨S7680x90, .i1⟩
  | 80 => ⟨S_, .f32⟩
  | 81 => ⟨S7680x90, .f32⟩
  | 82 => ⟨S7680x90, .f32⟩
  | 83 => ⟨S_, .f32⟩
  | 84 => ⟨S_, .f32⟩
  | 85 => ⟨S7680x90, .f32⟩
  | 86 => ⟨S7680x90, .f32⟩
  | 87 => ⟨S7680x90, .bf16⟩
  | 88 => ⟨S7680x90x1, .f32⟩
  | 89 => ⟨S7680x90x32, .f32⟩
  | 90 => ⟨S7680x90x32, .f32⟩
  | 91 => ⟨S_, .f32⟩
  | 92 => ⟨S_, .f32⟩
  | 93 => ⟨S_, .f32⟩
  | 94 => ⟨S7680x90x32, .f32⟩
  | 95 => ⟨S7680x90x32, .f32⟩
  | 96 => ⟨S_, .f32⟩
  | 97 => ⟨S7680x90x32, .f32⟩
  | 98 => ⟨S7680x90x32, .f32⟩
  | 99 => ⟨S7680x90x32, .f32⟩
  | 100 => ⟨S_, .f32⟩
  | 101 => ⟨S7680x90x32, .f32⟩
  | 102 => ⟨S7680x90x32, .i1⟩
  | 103 => ⟨S_, .f32⟩
  | 104 => ⟨S7680x90x32, .f32⟩
  | 105 => ⟨S7680x90x32, .i1⟩
  | 106 => ⟨S_, .f32⟩
  | 107 => ⟨S_, .f32⟩
  | 108 => ⟨S7680x90x32, .f32⟩
  | 109 => ⟨S7680x90x32, .f32⟩
  | 110 => ⟨S7680x90x32, .f32⟩
  | 111 => ⟨S_, .f32⟩
  | 112 => ⟨S7680x90x32, .f32⟩
  | 113 => ⟨S7680x90x32, .f32⟩
  | 114 => ⟨S7680x90x32, .f32⟩
  | 115 => ⟨S7680x90x32, .f32⟩
  | 116 => ⟨S7680x90x32, .f32⟩
  | 117 => ⟨S_, .f32⟩
  | 118 => ⟨S7680x90x32, .f32⟩
  | 119 => ⟨S7680x90x32, .f32⟩
  | 120 => ⟨S7680x90x32, .f32⟩
  | 121 => ⟨S7680x90x32, .f32⟩
  | 122 => ⟨S7680x90x32, .f32⟩
  | 123 => ⟨S7680x90x32, .f32⟩
  | 124 => ⟨S7680x90x32, .bf16⟩
  | 125 => ⟨S7680x90x1, .bf16⟩
  | 126 => ⟨S7680x90x32, .bf16⟩
  | 127 => ⟨S7680x90x32, .bf16⟩
  | _ => ⟨S2x128x2880, .bf16⟩

abbrev hbmTy0_2 (i : Nat) : BufTy := match i % 128 with
  | 0 => ⟨S7680x2880, .bf16⟩
  | 1 => ⟨S256x7680, .f32⟩
  | 2 => ⟨S256x7680, .bf16⟩
  | _ => ⟨S2x128x2880, .bf16⟩

abbrev hbmTy (i : Nat) : BufTy := match i / 128 with
  | 0 => hbmTy0_0 i
  | 1 => hbmTy0_1 i
  | 2 => hbmTy0_2 i
  | _ => ⟨S2x128x2880, .bf16⟩

abbrev bufTy : (tb : Table) → Fin (tcTables nBuf tb) → BufTy
  | .hbm, ⟨i, _⟩ => hbmTy i
  | _, _ => ⟨S2x128x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_v48 : Ref sig .tc := ⟨.hbm, 80, rfl⟩
abbrev main_cst_17 : Ref sig .tc := ⟨.hbm, 81, rfl⟩
abbrev main_v49 : Ref sig .tc := ⟨.hbm, 82, rfl⟩
abbrev main_v50 : Ref sig .tc := ⟨.hbm, 83, rfl⟩
abbrev main_cst_18 : Ref sig .tc := ⟨.hbm, 84, rfl⟩
abbrev main_call4_v0 : Ref sig .tc := ⟨.hbm, 85, rfl⟩
abbrev main_call4_v1 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_19 : Ref sig .tc := ⟨.hbm, 92, rfl⟩
abbrev main_cst_20 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v56 : Ref sig .tc := ⟨.hbm, 99, rfl⟩
abbrev main_v57 : Ref sig .tc := ⟨.hbm, 100, rfl⟩
abbrev main_cst_21 : Ref sig .tc := ⟨.hbm, 101, rfl⟩
abbrev main_v58 : Ref sig .tc := ⟨.hbm, 102, rfl⟩
abbrev main_v59 : Ref sig .tc := ⟨.hbm, 103, rfl⟩
abbrev main_cst_22 : Ref sig .tc := ⟨.hbm, 104, rfl⟩
abbrev main_v60 : Ref sig .tc := ⟨.hbm, 105, rfl⟩
abbrev main_v61 : Ref sig .tc := ⟨.hbm, 106, rfl⟩
abbrev main_cst_23 : Ref sig .tc := ⟨.hbm, 107, rfl⟩
abbrev main_cst_24 : Ref sig .tc := ⟨.hbm, 108, rfl⟩
abbrev main_call6_v0 : Ref sig .tc := ⟨.hbm, 109, rfl⟩
abbrev main_call6_v1 : Ref sig .tc := ⟨.hbm, 110, rfl⟩
abbrev main_v62 : Ref sig .tc := ⟨.hbm, 111, rfl⟩
abbrev main_cst_25 : Ref sig .tc := ⟨.hbm, 112, rfl⟩
abbrev main_call7_v0 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_26 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_27 : Ref sig .tc := ⟨.hbm, 138, rfl⟩
abbrev main_v86 : Ref sig .tc := ⟨.hbm, 139, rfl⟩
abbrev main_v87 : Ref sig .tc := ⟨.hbm, 140, rfl⟩
abbrev main_c_28 : Ref sig .tc := ⟨.hbm, 141, rfl⟩
abbrev main_v88 : Ref sig .tc := ⟨.hbm, 142, rfl⟩
abbrev main_v89 : Ref sig .tc := ⟨.hbm, 143, rfl⟩
abbrev main_cst_29 : Ref sig .tc := ⟨.hbm, 144, rfl⟩
abbrev main_cst_30 : Ref sig .tc := ⟨.hbm, 145, rfl⟩
abbrev main_call9_v0 : Ref sig .tc := ⟨.hbm, 146, rfl⟩
abbrev main_call9_v1 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_31 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_32 : Ref sig .tc := ⟨.hbm, 156, rfl⟩
abbrev main_v97 : Ref sig .tc := ⟨.hbm, 157, rfl⟩
abbrev main_cst_33 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_34 : Ref sig .tc := ⟨.hbm, 162, rfl⟩
abbrev main_v101 : Ref sig .tc := ⟨.hbm, 163, rfl⟩
abbrev main_v102 : Ref sig .tc := ⟨.hbm, 164, rfl⟩
abbrev main_cst_35 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_36 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_37 : Ref sig .tc := ⟨.hbm, 174, rfl⟩
abbrev main_cst_38 : Ref sig .tc := ⟨.hbm, 175, rfl⟩
abbrev main_call10_v0 : Ref sig .tc := ⟨.hbm, 176, rfl⟩
abbrev main_call10_v1 : Ref sig .tc := ⟨.hbm, 177, rfl⟩
abbrev main_call10_v2 : Ref sig .tc := ⟨.hbm, 178, rfl⟩
abbrev main_call10_v3 : Ref sig .tc := ⟨.hbm, 179, rfl⟩
abbrev main_call10_v4 : Ref sig .tc := ⟨.hbm, 180, rfl⟩
abbrev main_v110 : Ref sig .tc := ⟨.hbm, 181, rfl⟩
abbrev main_cst_39 : Ref sig .tc := ⟨.hbm, 182, rfl⟩
abbrev main_v111 : Ref sig .tc := ⟨.hbm, 183, rfl⟩
abbrev main_v112 : Ref sig .tc := ⟨.hbm, 184, rfl⟩
abbrev main_cst_40 : Ref sig .tc := ⟨.hbm, 185, rfl⟩
abbrev main_call11_v0 : Ref sig .tc := ⟨.hbm, 186, rfl⟩
abbrev main_call11_v1 : Ref sig .tc := ⟨.hbm, 187, rfl⟩
abbrev main_v113 : Ref sig .tc := ⟨.hbm, 188, rfl⟩
abbrev main_cst_41 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_42 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_cst_43 : Ref sig .tc := ⟨.hbm, 198, rfl⟩
abbrev main_v121 : Ref sig .tc := ⟨.hbm, 199, rfl⟩
abbrev main_v122 : Ref sig .tc := ⟨.hbm, 200, rfl⟩
abbrev main_cst_44 : Ref sig .tc := ⟨.hbm, 201, rfl⟩
abbrev main_call12_v0 : Ref sig .tc := ⟨.hbm, 202, rfl⟩
abbrev main_call12_v1 : Ref sig .tc := ⟨.hbm, 203, rfl⟩
abbrev main_v123 : Ref sig .tc := ⟨.hbm, 204, rfl⟩
abbrev main_cst_45 : Ref sig .tc := ⟨.hbm, 205, rfl⟩
abbrev main_v124 : Ref sig .tc := ⟨.hbm, 206, rfl⟩
abbrev main_v125 : Ref sig .tc := ⟨.hbm, 207, rfl⟩
abbrev main_cst_46 : Ref sig .tc := ⟨.hbm, 208, rfl⟩
abbrev main_v126 : Ref sig .tc := ⟨.hbm, 209, rfl⟩
abbrev main_v127 : Ref sig .tc := ⟨.hbm, 210, rfl⟩
abbrev main_cst_47 : Ref sig .tc := ⟨.hbm, 211, rfl⟩
abbrev main_call13_v0 : Ref sig .tc := ⟨.hbm, 212, rfl⟩
abbrev main_call13_v1 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_cst_48 : Ref sig .tc := ⟨.hbm, 219, rfl⟩
abbrev main_cst_49 : Ref sig .tc := ⟨.hbm, 220, rfl⟩
abbrev main_call14_v0 : Ref sig .tc := ⟨.hbm, 221, rfl⟩
abbrev main_call14_v1 : Ref sig .tc := ⟨.hbm, 222, rfl⟩
abbrev main_call14_v2 : Ref sig .tc := ⟨.hbm, 223, rfl⟩
abbrev main_call14_v3 : Ref sig .tc := ⟨.hbm, 224, rfl⟩
abbrev main_call14_v4 : Ref sig .tc := ⟨.hbm, 225, rfl⟩
abbrev main_v133 : Ref sig .tc := ⟨.hbm, 226, rfl⟩
abbrev main_v134 : Ref sig .tc := ⟨.hbm, 227, rfl⟩
abbrev main_cst_50 : Ref sig .tc := ⟨.hbm, 228, rfl⟩
abbrev main_v135 : Ref sig .tc := ⟨.hbm, 229, rfl⟩
abbrev main_v136 : Ref sig .tc := ⟨.hbm, 230, rfl⟩
abbrev main_cst_51 : Ref sig .tc := ⟨.hbm, 231, rfl⟩
abbrev main_v137 : Ref sig .tc := ⟨.hbm, 232, rfl⟩
abbrev main_v138 : Ref sig .tc := ⟨.hbm, 233, rfl⟩
abbrev main_cst_52 : Ref sig .tc := ⟨.hbm, 234, rfl⟩
abbrev main_cst_53 : Ref sig .tc := ⟨.hbm, 235, rfl⟩
abbrev main_call15_v0 : Ref sig .tc := ⟨.hbm, 236, rfl⟩
abbrev main_call15_v1 : Ref sig .tc := ⟨.hbm, 237, rfl⟩
abbrev main_v139 : Ref sig .tc := ⟨.hbm, 238, rfl⟩
abbrev main_cst_54 : Ref sig .tc := ⟨.hbm, 239, rfl⟩
abbrev main_call16_v0 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_cst_55 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩

abbrev nD : Nat := 1
abbrev τ : Topo := Topo.v7x

variable {F : FTy → Type} [FloatOps F]

def κ : String → Option EReal := fun
  | "inv_sqrt_32" => some (((Real.sqrt 32)⁻¹ : ℝ) : EReal)
  | _ => none
-- ==== Proof.Printed.Runs.lean ====
/- What the runs of the two cases of the kernel as printed share: the launch contents, the blocks of the inputs, the conditions.
   The text follows the library's generated frame of a kernel of this class, with the five other outputs forgotten. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 9 is never idle (an output stored at every point, under no condition). -/
theorem liveAt0_9 : ∀ t : Fin cfg0.N, cfg0.idle 9 (grid0.coords t) = false := fun _ => rfl
/-! ## The kernel body on any staging memrefs: a subtype the run finds -/

/-- One staging buffer of output window 3, through which its contents are stated (`View.read_writes_of_cover`: the
    choice does not matter). -/
abbrev VO0_3 : View sig .tc .vmem S256x256 .bf16 := (Memref.whole cc0_stg3_0 : Memref sig .tc .vmem S256x256 .bf16).view
/-- One staging buffer of output window 9, through which its contents are stated (`View.read_writes_of_cover`: the
    choice does not matter). -/
abbrev VO0_9 : View sig .tc .vmem S256x90 .i8 := (Memref.whole cc0_stg9_0 : Memref sig .tc .vmem S256x90 .i8).view
/-- Each window's current staging memref at point `t`, spelled as the pipeline passes it (`bodyAt0`), and its wholeness. -/
abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2880 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x360 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x360 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1440 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x90 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1440 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x90 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x2880 .bf16 := Memref.whole cc0_scratch0
/-- The scratch `arg11` the kernel carries between points, as a view: what it holds is stated through it. -/
abbrev VS0_0 : View sig .tc .vmem S256x2880 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.Printed.RunA.lean ====
/- The run of the body at the first grid point, where x is quantised into the scratch.
   The text follows the library's generated frame of a kernel of this class, with the five other outputs forgotten. -/
module

public import proofs.«01_k».proof.Proof.Printed.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1948000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_A (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) :
    Σ' (L3 : List (View.Piece (Elt F) S256x256 .bf16)), Σ' (L9 : List (View.Piece (Elt F) S256x90 .i8)), { LS0 : List (View.Piece (Elt F) S256x2880 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_quartet_linear i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_quartet_linear_eq_skeleton]; unfold cc0_quartet_linear_skel
    simp only [k0_part157_eq_skeleton, k0_part80_eq_skeleton, k0_part79_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part158_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    iexists _; iexact HS0

end Cert.Kernel.Gen

end
-- ==== Proof.Printed.RunB.lean ====
/- The run of the body at a later grid point, where the scratch holds the quantised x.
   The text follows the library's generated frame of a kernel of this class, with the five other outputs forgotten. -/
module

public import proofs.«01_k».proof.Proof.Printed.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 29: 29 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_B (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) :
    Σ' (L3 : List (View.Piece (Elt F) S256x256 .bf16)), Σ' (L9 : List (View.Piece (Elt F) S256x90 .i8)), { LS0 : List (View.Piece (Elt F) S256x2880 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0_quartet_linear i arg1 harg1 arg2 harg2 arg3 harg3 arg4 harg4 arg5 harg5 arg6 harg6 arg7 harg7 arg8 harg8 arg9 harg9 arg10 harg10 arg11 harg11) K } := by
  refine ⟨?_, ?_, [], fun E K => ?run⟩
  case run =>
    simp only [cc0_quartet_linear_eq_skeleton]; unfold cc0_quartet_linear_skel
    simp only [k0_part157_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part158_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    iexists _; isplitr; · ipureintro; exact harg11.read_unread _
    iexact HS0

end Cert.Kernel.Gen

end
-- ==== Proof.Printed.Frame.lean ====
/- The frame of the kernel as printed with two outputs named: y (window 3) and the scale codes of w (window 9). Nothing is said of the
   other five outputs; the scratch that holds the quantised x is carried from point to point.
   The text follows the library's generated frame of a kernel of this class, with the five other outputs forgotten. -/
module

public import proofs.«01_k».proof.Proof.Printed.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (1 store of `S256x256`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2).1 S256x256.size (by sl_kernel_rfl) y

/-- What case A leaves in output 3's staging buffer: its pieces read back over junk. -/
def out0_A_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) : Vec F S256x256 .bf16 :=
  VO0_3.read (Elt F) (VO0_3.writes (Elt F) VO0_3.junk (kernelRun0_A c i arg1 harg1 arg2 harg2 arg3 harg3 arg4 harg4 arg5 harg5 arg6 harg6 arg7 harg7 arg8 harg8 arg9 harg9 arg10 harg10 arg11 harg11 hc0 x0 x1 x2).1)

/-- Case A's pieces for output 9 tile its block (1 store of `S256x90`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) (y : S256x90.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2).2.1 S256x90.size (by sl_kernel_rfl) y

/-- What case A leaves in output 9's staging buffer: its pieces read back over junk. -/
def out0_A_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) : Vec F S256x90 .i8 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 x0 x1 x2).2.1)

/-- Case A's pieces for scratch `arg11`, which the kernel carries between points, cover it: 12 pieces (stores and landed copies) of several sizes (`S256x256`, `S256x64`) tiling it when cut into blocks of `![256, 64]` (Lib/Ring.lean `Piece.tiledBy`). -/
theorem scover0_A_0 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) (y : S256x2880.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 x0 x1 x2).2.2.1 ![256, 64] (by sl_kernel_rfl) y

/-- What case A leaves in scratch `arg11`: its pieces read back over junk. -/
def sout0_A_0 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) : Vec F S256x2880 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2).2.2.1)

/-- Case B's pieces for output 3 tile its block (1 store of `S256x256`, checked by the kernel's evaluation: Lib/Ring.lean `Piece.tiledL`, linear in the pieces, through a loop's `@[irreducible]` trip theorem too), so they cover it. -/
theorem cover0_B_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) (y : S256x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 xs0).1 S256x256.size (by sl_kernel_rfl) y

/-- What case B leaves in output 3's staging buffer: its pieces read back over junk. -/
def out0_B_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) : Vec F S256x256 .bf16 :=
  VO0_3.read (Elt F) (VO0_3.writes (Elt F) VO0_3.junk (kernelRun0_B c i arg1 harg1 arg2 harg2 arg3 harg3 arg4 harg4 arg5 harg5 arg6 harg6 arg7 harg7 arg8 harg8 arg9 harg9 arg10 harg10 arg11 harg11 hc0 x0 x1 x2 xs0).1)

/-- Case B's pieces for output 9 tile its block (1 store of `S256x90`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) (y : S256x90.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 xs0).2.1 S256x90.size (by sl_kernel_rfl) y

/-- What case B leaves in output 9's staging buffer: its pieces read back over junk. -/
def out0_B_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) : Vec F S256x90 .i8 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 x0 x1 x2 xs0).2.1)

/-- Case B stores nothing into scratch `arg11`: it holds what the point before left. -/
def sout0_B_0 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) : Vec F S256x2880 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x256 .bf16 × Vec F S256x90 .i8 × Vec F S256x2880 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 30 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2)

/-- `outsAt0` at a point of case A: that case's contents. -/
theorem outsAt0_A (c : Dev nD) (t : Fin cfg0.N) (h0 : t.val % 30 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The output windows this certificate FORGETS (4, 5, 6, 7, 8): nothing reads what the kernel leaves in them, so nothing
    of it is named (Lib/Pipeline/Dat.lean `Dat.toRForget`). -/
def forgets0 : Fin 10 → Bool := fun w => w.val == 4 || w.val == 5 || w.val == 6 || w.val == 7 || w.val == 8
theorem forgets0_3 : forgets0 (3 : Fin 10) = false := by decide
theorem forgets0_9 : forgets0 (9 : Fin 10) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (dats m 0 c).leavesExact 9 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 9 t = owns (c : Thread nD τ) (ms0_9 t) fullShare ((dats m 0 c).after 9 t) from by
      unfold Dat.leavesExact; rw [liveAt0_9 t], after0_9]
    by_cases hz : t.val = 0
    · rw [PhiS_castSucc m c t, PhiS_zero m c _ _ hz, PhiA0_eq]
      rw [outsAt0_A m c t h0]
      unfold out0_A_3 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, ⟨%e3, H3⟩, H4, H5, H6, H7, H8, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _ _)
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _)
    · exfalso; have hN : t.val < 30 := lt_of_lt_of_eq t.isLt (show cfg0.N = 30 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 9 t = owns (c : Thread nD τ) (ms0_9 t) fullShare ((dats m 0 c).after 9 t) from by
      unfold Dat.leavesExact; rw [liveAt0_9 t], after0_9]
    by_cases hz : t.val = 0
    · exfalso; have hN : t.val < 30 := lt_of_lt_of_eq t.isLt (show cfg0.N = 30 from N_0); omega
    · rw [PhiS_castSucc m c t, PhiS_pos m c _ _ hz]
      rw [outsAt0_B m c t h0]
      unfold out0_B_3 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) _).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, ⟨%e3, H3⟩, H4, H5, H6, H7, H8, ⟨%e9, H9⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _)
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.Named.Runs.lean ====
/- What the runs of the two cases of the ideal kernel share: the launch contents, the blocks of the inputs, the conditions.
   The text follows the library's generated frame of a kernel of this class, with the five other outputs forgotten. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 9 is never idle (an output stored at every point, under no condition). -/
theorem liveAt0_9 : ∀ t : Fin cfg0.N, cfg0.idle 9 (grid0.coords t) = false := fun _ => rfl
/-! ## The kernel body on any staging memrefs: a subtype the run finds -/

/-- One staging buffer of output window 3, through which its contents are stated (`View.read_writes_of_cover`: the
    choice does not matter). -/
abbrev VO0_3 : View sig .tc .vmem S256x256 .bf16 := (Memref.whole cc0_stg3_0 : Memref sig .tc .vmem S256x256 .bf16).view
/-- One staging buffer of output window 9, through which its contents are stated (`View.read_writes_of_cover`: the
    choice does not matter). -/
abbrev VO0_9 : View sig .tc .vmem S256x90 .i8 := (Memref.whole cc0_stg9_0 : Memref sig .tc .vmem S256x90 .i8).view
/-- Each window's current staging memref at point `t`, spelled as the pipeline passes it (`bodyAt0`), and its wholeness. -/
abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2880 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x360 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x360 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1440 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x90 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1440 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x90 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x2880 .bf16 := Memref.whole cc0_scratch0
/-- The scratch `arg11` the kernel carries between points, as a view: what it holds is stated through it. -/
abbrev VS0_0 : View sig .tc .vmem S256x2880 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Named.RunA.lean ====
/- The run of the body at the first grid point, where x is quantised into the scratch.
   The text follows the library's generated frame of a kernel of this class, with the five other outputs forgotten. -/
module

public import proofs.«01_k».proof.Proof.Named.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1948000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_A (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) :
    Σ' (L3 : List (View.Piece (Elt F) S256x256 .bf16)), Σ' (L9 : List (View.Piece (Elt F) S256x90 .i8)), { LS0 : List (View.Piece (Elt F) S256x2880 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_quartet_linear i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_quartet_linear_eq_skeleton]; unfold cc0_quartet_linear_skel
    simp only [k0_part157_eq_skeleton, k0_part80_eq_skeleton, k0_part79_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part158_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    iexists _; iexact HS0

end Cert.KernelIdeal.Gen

end
-- ==== Proof.Named.RunB.lean ====
/- The run of the body at a later grid point, where the scratch holds the quantised x.
   The text follows the library's generated frame of a kernel of this class, with the five other outputs forgotten. -/
module

public import proofs.«01_k».proof.Proof.Named.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 29: 29 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_B (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) :
    Σ' (L3 : List (View.Piece (Elt F) S256x256 .bf16)), Σ' (L9 : List (View.Piece (Elt F) S256x90 .i8)), { LS0 : List (View.Piece (Elt F) S256x2880 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0_quartet_linear i arg1 harg1 arg2 harg2 arg3 harg3 arg4 harg4 arg5 harg5 arg6 harg6 arg7 harg7 arg8 harg8 arg9 harg9 arg10 harg10 arg11 harg11) K } := by
  refine ⟨?_, ?_, [], fun E K => ?run⟩
  case run =>
    simp only [cc0_quartet_linear_eq_skeleton]; unfold cc0_quartet_linear_skel
    simp only [k0_part157_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part158_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    iexists _; isplitr; · ipureintro; exact harg11.read_unread _
    iexact HS0

end Cert.KernelIdeal.Gen

end
-- ==== Proof.Named.Frame.lean ====
/- The frame of the ideal kernel with two outputs named: y (window 3) and the scale codes of w (window 9). Nothing is said of the
   other five outputs; the scratch that holds the quantised x is carried from point to point.
   The text follows the library's generated frame of a kernel of this class, with the five other outputs forgotten. -/
module

public import proofs.«01_k».proof.Proof.Named.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 3 tile its block (1 store of `S256x256`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2).1 S256x256.size (by sl_kernel_rfl) y

/-- What case A leaves in output 3's staging buffer: its pieces read back over junk. -/
def out0_A_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) : Vec F S256x256 .bf16 :=
  VO0_3.read (Elt F) (VO0_3.writes (Elt F) VO0_3.junk (kernelRun0_A c i arg1 harg1 arg2 harg2 arg3 harg3 arg4 harg4 arg5 harg5 arg6 harg6 arg7 harg7 arg8 harg8 arg9 harg9 arg10 harg10 arg11 harg11 hc0 x0 x1 x2).1)

/-- Case A's pieces for output 9 tile its block (1 store of `S256x90`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) (y : S256x90.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2).2.1 S256x90.size (by sl_kernel_rfl) y

/-- What case A leaves in output 9's staging buffer: its pieces read back over junk. -/
def out0_A_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) : Vec F S256x90 .i8 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 x0 x1 x2).2.1)

/-- Case A's pieces for scratch `arg11`, which the kernel carries between points, cover it: 12 pieces (stores and landed copies) of several sizes (`S256x256`, `S256x64`) tiling it when cut into blocks of `![256, 64]` (Lib/Ring.lean `Piece.tiledBy`). -/
theorem scover0_A_0 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) (y : S256x2880.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 x0 x1 x2).2.2.1 ![256, 64] (by sl_kernel_rfl) y

/-- What case A leaves in scratch `arg11`: its pieces read back over junk. -/
def sout0_A_0 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : cond0_0 i)
    (x0 : Vec F S256x256 .bf16) (x1 : Vec F S256x2880 .bf16) (x2 : Vec F S256x2880 .bf16) : Vec F S256x2880 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2).2.2.1)

/-- Case B's pieces for output 3 tile its block (1 store of `S256x256`, checked by the kernel's evaluation: Lib/Ring.lean `Piece.tiledL`, linear in the pieces, through a loop's `@[irreducible]` trip theorem too), so they cover it. -/
theorem cover0_B_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) (y : S256x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 xs0).1 S256x256.size (by sl_kernel_rfl) y

/-- What case B leaves in output 3's staging buffer: its pieces read back over junk. -/
def out0_B_3 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) : Vec F S256x256 .bf16 :=
  VO0_3.read (Elt F) (VO0_3.writes (Elt F) VO0_3.junk (kernelRun0_B c i arg1 harg1 arg2 harg2 arg3 harg3 arg4 harg4 arg5 harg5 arg6 harg6 arg7 harg7 arg8 harg8 arg9 harg9 arg10 harg10 arg11 harg11 hc0 x0 x1 x2 xs0).1)

/-- Case B's pieces for output 9 tile its block (1 store of `S256x90`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) (y : S256x90.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 xs0).2.1 S256x90.size (by sl_kernel_rfl) y

/-- What case B leaves in output 9's staging buffer: its pieces read back over junk. -/
def out0_B_9 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) : Vec F S256x90 .i8 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 x0 x1 x2 xs0).2.1)

/-- Case B stores nothing into scratch `arg11`: it holds what the point before left. -/
def sout0_B_0 (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole) (hc0 : ¬cond0_0 i)
    (x0 : Vec F S256x256 .bf16) (x1 : Vec F S256x2880 .bf16) (x2 : Vec F S256x2880 .bf16) (xs0 : Vec F S256x2880 .bf16) : Vec F S256x2880 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x256 .bf16 × Vec F S256x90 .i8 × Vec F S256x2880 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 30 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2)

/-- `outsAt0` at a point of case A: that case's contents. -/
theorem outsAt0_A (c : Dev nD) (t : Fin cfg0.N) (h0 : t.val % 30 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The output windows this certificate FORGETS (4, 5, 6, 7, 8): nothing reads what the kernel leaves in them, so nothing
    of it is named (Lib/Pipeline/Dat.lean `Dat.toRForget`). -/
def forgets0 : Fin 10 → Bool := fun w => w.val == 4 || w.val == 5 || w.val == 6 || w.val == 7 || w.val == 8
theorem forgets0_3 : forgets0 (3 : Fin 10) = false := by decide
theorem forgets0_9 : forgets0 (9 : Fin 10) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (dats m 0 c).leavesExact 9 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 9 t = owns (c : Thread nD τ) (ms0_9 t) fullShare ((dats m 0 c).after 9 t) from by
      unfold Dat.leavesExact; rw [liveAt0_9 t], after0_9]
    by_cases hz : t.val = 0
    · rw [PhiS_castSucc m c t, PhiS_zero m c _ _ hz, PhiA0_eq]
      rw [outsAt0_A m c t h0]
      unfold out0_A_3 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, ⟨%e3, H3⟩, H4, H5, H6, H7, H8, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _ _)
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _)
    · exfalso; have hN : t.val < 30 := lt_of_lt_of_eq t.isLt (show cfg0.N = 30 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 9 t = owns (c : Thread nD τ) (ms0_9 t) fullShare ((dats m 0 c).after 9 t) from by
      unfold Dat.leavesExact; rw [liveAt0_9 t], after0_9]
    by_cases hz : t.val = 0
    · exfalso; have hN : t.val < 30 := lt_of_lt_of_eq t.isLt (show cfg0.N = 30 from N_0); omega
    · rw [PhiS_castSucc m c t, PhiS_pos m c _ _ hz]
      rw [outsAt0_B m c t h0]
      unfold out0_B_3 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) _).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, ⟨%e3, H3⟩, H4, H5, H6, H7, H8, ⟨%e9, H9⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _)
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Named.Value.lean ====
/- What the two named output arrays of the ideal kernel hold after the run: y and the scale codes of w.
   The text follows the library's generated frame of a kernel of this class, with the five other outputs forgotten. -/
module

public import proofs.«01_k».proof.Proof.Named.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 30 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 30 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2) := by
  simp only [flushed3, outsAt0_B m c t h0]

/-- The index map sends distinct grid points to distinct block indices (decided over the 30 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S256x7680.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 30 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 30 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2) := by
  simp only [flushed9, outsAt0_B m c t h0]

/-- The index map sends distinct grid points to distinct block indices (decided over the 30 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S7680x90.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 10) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 3's array is `(dats m 0 c).arrAt 3 N`. -/
theorem post3 (r : PUnit × MemSt nD τ sig (Elt F)) (h : Pipeline.RDat.FramePost (cfgs 0) (fun c => (dats m 0 c).toRForget forgets0) (V m) r) (c : Dev nD) :
    r.2.mem ((c : Thread nD τ).loc main_v24_0) = (dats m 0 c).arrAt 3 cfg0.N :=
  finalR_out0 m r h c 3 forgets0_3

/-- After the frame run, output window 9's array is `(dats m 0 c).arrAt 9 N`. -/
theorem post9 (r : PUnit × MemSt nD τ sig (Elt F)) (h : Pipeline.RDat.FramePost (cfgs 0) (fun c => (dats m 0 c).toRForget forgets0) (V m) r) (c : Dev nD) :
    r.2.mem ((c : Thread nD τ).loc main_v24_6) = (dats m 0 c).arrAt 9 cfg0.N :=
  finalR_out0 m r h c 9 forgets0_9

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 2 rfl).trans ((A_eq m c 2).trans (V_main_arg1 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24_0) = (dats m 0 c).arrAt 3 cfg0.N
      ∧ r.2.mem ((c : Thread nD τ).loc main_v24_6) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post3 m r h c,
      post9 m r h c,
      kept_main_arg0 m r h c,
      kept_main_arg1 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S256x2880 .bf16) : Vec F S256x2880 .bf16 :=
  if h0 : n % 30 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- WHAT CARRIED SCRATCH 0 HOLDS after point `t`: the fold of its run up to `t`, from the reset at the run's first point
    `30·(t / 30)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (30 * (t.val / 30)) (t.val % 30)
      (by have h1 := t.isLt; have h2 := Nat.div_add_mod t.val 30; omega) :=
  Pipeline.eq_accAt_of_mod (fun n h => (outsAt0 m c n h).2.2) 30 (fun n h => scAt0_0 m c n h (VS0_0.read (Elt F) VS0_0.junk)) (scAt0_0 m c)
    (fun n h hn => by
      have hN := lt_of_lt_of_eq h (show cfg0.N = 30 from N_0)
      by_cases h0 : n % 30 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 30 from N_0)
      by_cases h0 : (n + 1) % 30 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 30 from N_0)
  have hd : n / 30 = 0 := Nat.div_eq_of_lt hN
  have hm : n % 30 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x256 .bf16 × Vec F S256x90 .i8 × Vec F S256x2880 .bf16 :=
  ((VO0_3.read (Elt F) VO0_3.junk, VO0_9.read (Elt F) VO0_9.junk, VS0_0.read (Elt F) VS0_0.junk) : Vec F S256x256 .bf16 × Vec F S256x90 .i8 × Vec F S256x2880 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x256 .bf16 × Vec F S256x90 .i8 × Vec F S256x2880 .bf16) : Vec F S256x256 .bf16 × Vec F S256x90 .i8 × Vec F S256x2880 .bf16 :=
  if h0 : n % 30 = 0 then
    (out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)))
  else
    (out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2)

/-- `stAt0` at a point of case A: that case's contents. -/
theorem stAt0_A (c : Dev nD) (t : Fin cfg0.N) (acc : Vec F S256x256 .bf16 × Vec F S256x90 .i8 × Vec F S256x2880 .bf16) (h0 : t.val % 30 = 0) :
    stAt0 m c t.val t.isLt acc = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t)) :=
  (dif_pos h0).trans rfl

/-- `stAt0` at a point of case B: that case's contents, over `acc`. -/
theorem stAt0_B (c : Dev nD) (t : Fin cfg0.N) (acc : Vec F S256x256 .bf16 × Vec F S256x90 .i8 × Vec F S256x2880 .bf16) (h0 : ¬t.val % 30 = 0) :
    stAt0 m c t.val t.isLt acc = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) acc.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) acc.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 30 from N_0)
  have e := Pipeline.eq_accAt_of_mod (fun n h => outsAt0 m c n h) 30 (fun n h => stAt0 m c n h junk0) (stAt0 m c)
    (fun n h _ => by
      have hN := lt_of_lt_of_eq h (show cfg0.N = 30 from N_0)
      obtain rfl : n = 0 := by omega
      exact outsAt0_zero m c h)
    (fun n h _ => outsAt0_succ m c n h)
    (by decide) n hn (by have := Nat.div_add_mod n 30; omega)
  have hd : n / 30 = 0 := Nat.div_eq_of_lt hN
  have hm : n % 30 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 3 -/

/-- The block of the array that holds index `i`, numbered in the order the points write the blocks back (one per point),
    `i`'s place in it, and the point that writes it back. -/
abbrev run3Of (i : S256x7680.Idx) : ℕ := 30 * ((i 0).val / 256 - 0) + 1 * ((i 1).val / 256 - 0)
set_option backward.proofsInPublic true in
abbrev loc3Of (i : S256x7680.Idx) : S256x256.Idx := fun a => match a with
  | ⟨0, _⟩ => ⟨(i 0).val % 256, Nat.mod_lt _ (by decide)⟩
  | ⟨1, _⟩ => ⟨(i 1).val % 256, Nat.mod_lt _ (by decide)⟩
abbrev pt3Of (i : S256x7680.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v24_0) := fun i =>
  if h : pt3Of i < cfg0.N then
    (Pipeline.accAt (fun n h => stAt0 m c n h junk0) (stAt0 m c) 0 (pt3Of i) (by omega)).1 (loc3Of i)
  else V m c (Pipeline.arrRef spec0 3) i

/-- The printed index map, decided over the grid: output window 3's block indices stay in the box, and the block number
    read off them is the point's (`t`). -/
theorem idx_facts3 : ∀ t : Fin cfg0.N, 0 ≤ win0_3.index t (0 : Fin 2) ∧ win0_3.index t (0 : Fin 2) ≤ 0
    ∧ 0 ≤ win0_3.index t (1 : Fin 2) ∧ win0_3.index t (1 : Fin 2) ≤ 29
    ∧ 30 * (win0_3.index t (0 : Fin 2) - 0) + 1 * (win0_3.index t (1 : Fin 2) - 0) = t.val :=
  (by decide +kernel : ∀ t : Fin grid0.N, _)

/-- Every block of the box is SOME flushing point's: `onto3Pt`, the point that writes back the block at place `q` of the box. -/
abbrev onto3Pt (q0 : Fin 1) (q1 : Fin 30) : Fin grid0.N :=
  ⟨30 * q0.val + 1 * q1.val, lt_of_lt_of_eq (by omega) N_0.symm⟩
theorem idx_onto3 : ∀ (q0 : Fin 1) (q1 : Fin 30), ∃ t : Fin cfg0.N, (cfg0.win 3).flush t = true ∧ win0_3.index t = ![q0.val + 0, q1.val + 0] :=
  fun q0 q1 => ⟨onto3Pt q0 q1, (by decide +kernel : ∀ (q0 : Fin 1) (q1 : Fin 30), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  obtain ⟨e0, e1, e2⟩ := idx_facts3 t
  funext y
  have hy0 : (y 0).val < 256 := (y 0).isLt
  have hy1 : (y 1).val < 256 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 256 + 1 * (y 1).val := rfl
  have hr : run3Of (((cfg0.win 3).blk t).view.emb y) = t.val := by
    show 30 * ((((cfg0.win 3).blk t).view.emb y 0).val / 256 - 0) + 1 * ((((cfg0.win 3).blk t).view.emb y 1).val / 256 - 0) = _
    rw [hb0, hb1]
    rw [show (win0_3.index t (0 : Fin 2) * 256 + 1 * (y 0).val) / 256 = win0_3.index t (0 : Fin 2) from by omega]; rw [show (win0_3.index t (1 : Fin 2) * 256 + 1 * (y 1).val) / 256 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 256 = (y 0).val; rw [hb0]; omega
    | ⟨1, _⟩ => show (((cfg0.win 3).blk t).view.emb y 1).val % 256 = (y 1).val; rw [hb1]; omega
  have hp : pt3Of (((cfg0.win 3).blk t).view.emb y) = t.val := by
    exact hr
  show (Pipeline.accAt (fun n h => stAt0 m c n h junk0) (stAt0 m c) 0 t.val _).1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S256x7680.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v24_0).slice (win0_3.rect t)).set ↔ _
  rw [View.set_slice_whole, Rect.mem_set_unit]
  exact Iff.rfl

/-- THE COVERED INDICES: in some flushing point's block iff inside the box those blocks fill. -/
theorem covered_iff3 (i : S256x7680.Idx) :
    (∃ t : Fin cfg0.N, (cfg0.win 3).flush t = true ∧ i ∈ ((cfg0.win 3).blk t).view.set) ↔ 0 ≤ (i 0).val ∧ (i 0).val < 256 ∧ 0 ≤ (i 1).val ∧ (i 1).val < 7680 := by
  constructor
  · rintro ⟨t, -, hi⟩
    rw [mem_blk3] at hi
    have b0 : win0_3.index t (0 : Fin 2) * 256 ≤ (i 0).val ∧ (i 0).val < win0_3.index t (0 : Fin 2) * 256 + 256 := hi 0
    have b1 : win0_3.index t (1 : Fin 2) * 256 ≤ (i 1).val ∧ (i 1).val < win0_3.index t (1 : Fin 2) * 256 + 256 := hi 1
    obtain ⟨e0, e1, e2⟩ := idx_facts3 t
    omega
  · intro h
    have hi0 : (i 0).val < 256 := (i 0).isLt
    have hi1 : (i 1).val < 7680 := (i 1).isLt
    obtain ⟨t, hft, ht⟩ := idx_onto3 ⟨(i 0).val / 256 - 0, by omega⟩ ⟨(i 1).val / 256 - 0, by omega⟩
    have q0 : win0_3.index t (0 : Fin 2) = (i 0).val / 256 - 0 + 0 := congrFun ht 0
    have q1 : win0_3.index t (1 : Fin 2) = (i 1).val / 256 - 0 + 0 := congrFun ht 1
    refine ⟨t, hft, ?_⟩
    rw [mem_blk3]
    intro a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 256 ≤ (i 1).val ∧ (i 1).val < win0_3.index t (1 : Fin 2) * 256 + 256; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 256 := (i 0).isLt; have h1 : (i 1).val < 7680 := (i 1).isLt; omega))

/-! ## Output window 9 -/

/-- The block of the array that holds index `i`, numbered in the order the points write the blocks back (one per point),
    `i`'s place in it, and the point that writes it back. -/
abbrev run9Of (i : S7680x90.Idx) : ℕ := 1 * ((i 0).val / 256 - 0) + 1 * ((i 1).val / 90 - 0)
set_option backward.proofsInPublic true in
abbrev loc9Of (i : S7680x90.Idx) : S256x90.Idx := fun a => match a with
  | ⟨0, _⟩ => ⟨(i 0).val % 256, Nat.mod_lt _ (by decide)⟩
  | ⟨1, _⟩ => ⟨(i 1).val % 90, Nat.mod_lt _ (by decide)⟩
abbrev pt9Of (i : S7680x90.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v24_6) := fun i =>
  if h : pt9Of i < cfg0.N then
    (Pipeline.accAt (fun n h => stAt0 m c n h junk0) (stAt0 m c) 0 (pt9Of i) (by omega)).2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 2) ∧ win0_9.index t (0 : Fin 2) ≤ 29
    ∧ 0 ≤ win0_9.index t (1 : Fin 2) ∧ win0_9.index t (1 : Fin 2) ≤ 0
    ∧ 1 * (win0_9.index t (0 : Fin 2) - 0) + 1 * (win0_9.index t (1 : Fin 2) - 0) = t.val :=
  (by decide +kernel : ∀ t : Fin grid0.N, _)

/-- Every block of the box is SOME flushing point's: `onto9Pt`, the point that writes back the block at place `q` of the box. -/
abbrev onto9Pt (q0 : Fin 30) (q1 : Fin 1) : Fin grid0.N :=
  ⟨1 * q0.val + 1 * q1.val, lt_of_lt_of_eq (by omega) N_0.symm⟩
theorem idx_onto9 : ∀ (q0 : Fin 30) (q1 : Fin 1), ∃ t : Fin cfg0.N, (cfg0.win 9).flush t = true ∧ win0_9.index t = ![q0.val + 0, q1.val + 0] :=
  fun q0 q1 => ⟨onto9Pt q0 q1, (by decide +kernel : ∀ (q0 : Fin 30) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2⟩ := idx_facts9 t
  funext y
  have hy0 : (y 0).val < 256 := (y 0).isLt
  have hy1 : (y 1).val < 90 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 90 + 1 * (y 1).val := rfl
  have hr : run9Of (((cfg0.win 9).blk t).view.emb y) = t.val := by
    show 1 * ((((cfg0.win 9).blk t).view.emb y 0).val / 256 - 0) + 1 * ((((cfg0.win 9).blk t).view.emb y 1).val / 90 - 0) = _
    rw [hb0, hb1]
    rw [show (win0_9.index t (0 : Fin 2) * 256 + 1 * (y 0).val) / 256 = win0_9.index t (0 : Fin 2) from by omega]; rw [show (win0_9.index t (1 : Fin 2) * 90 + 1 * (y 1).val) / 90 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 256 = (y 0).val; rw [hb0]; omega
    | ⟨1, _⟩ => show (((cfg0.win 9).blk t).view.emb y 1).val % 90 = (y 1).val; rw [hb1]; omega
  have hp : pt9Of (((cfg0.win 9).blk t).view.emb y) = t.val := by
    exact hr
  show (Pipeline.accAt (fun n h => stAt0 m c n h junk0) (stAt0 m c) 0 t.val _).2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S7680x90.Idx) :
    i ∈ ((cfg0.win 9).blk t).view.set ↔ ∀ a : Fin 2, win0_9.index t a * S256x90.size a ≤ (i a).val ∧ (i a).val < win0_9.index t a * S256x90.size a + S256x90.size a := by
  show i ∈ ((View.whole main_v24_6).slice (win0_9.rect t)).set ↔ _
  rw [View.set_slice_whole, Rect.mem_set_unit]
  exact Iff.rfl

/-- THE COVERED INDICES: in some flushing point's block iff inside the box those blocks fill. -/
theorem covered_iff9 (i : S7680x90.Idx) :
    (∃ t : Fin cfg0.N, (cfg0.win 9).flush t = true ∧ i ∈ ((cfg0.win 9).blk t).view.set) ↔ 0 ≤ (i 0).val ∧ (i 0).val < 7680 ∧ 0 ≤ (i 1).val ∧ (i 1).val < 90 := by
  constructor
  · rintro ⟨t, -, hi⟩
    rw [mem_blk9] at hi
    have b0 : win0_9.index t (0 : Fin 2) * 256 ≤ (i 0).val ∧ (i 0).val < win0_9.index t (0 : Fin 2) * 256 + 256 := hi 0
    have b1 : win0_9.index t (1 : Fin 2) * 90 ≤ (i 1).val ∧ (i 1).val < win0_9.index t (1 : Fin 2) * 90 + 90 := hi 1
    obtain ⟨e0, e1, e2⟩ := idx_facts9 t
    omega
  · intro h
    have hi0 : (i 0).val < 7680 := (i 0).isLt
    have hi1 : (i 1).val < 90 := (i 1).isLt
    obtain ⟨t, hft, ht⟩ := idx_onto9 ⟨(i 0).val / 256 - 0, by omega⟩ ⟨(i 1).val / 90 - 0, by omega⟩
    have q0 : win0_9.index t (0 : Fin 2) = (i 0).val / 256 - 0 + 0 := congrFun ht 0
    have q1 : win0_9.index t (1 : Fin 2) = (i 1).val / 90 - 0 + 0 := congrFun ht 1
    refine ⟨t, hft, ?_⟩
    rw [mem_blk9]
    intro a
    match a with
    | ⟨0, _⟩ => show win0_9.index t (0 : Fin 2) * 256 ≤ (i 0).val ∧ (i 0).val < win0_9.index t (0 : Fin 2) * 256 + 256; omega
    | ⟨1, _⟩ => show win0_9.index t (1 : Fin 2) * 90 ≤ (i 1).val ∧ (i 1).val < win0_9.index t (1 : Fin 2) * 90 + 90; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 7680 := (i 0).isLt; have h1 : (i 1).val < 90 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v24_0) = G3 m c
      ∧ r.2.mem ((c : Thread nD τ).loc main_v24_6) = G9 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post3 m r h c).trans (final3 m c),
      (post9 m r h c).trans (final9 m c),
      kept_main_arg0 m r h c,
      kept_main_arg1 m r h c⟩)
    (run_main m ρ)

end Cert.KernelIdeal.Value

end
-- ==== Proof.Quant.Scalar.lean ====
/- The arithmetic of one block on the extended reals: the exponent found by binary search over the powers of two, the
   two bit patterns made of it, and the eight magnitudes of a 4-bit float chosen by thresholds. -/
module

public import Idealize.ShloMosaic.PureOps
public import Idealize.ShloMosaic.PureOps.Ideal.Laws

@[expose] public section

noncomputable section

namespace Cert.Quant

open Idealize.ShloMosaic

/-- The value a 32-bit float has whose exponent field is `f` and whose other bits are zero. -/
def powOf (f : BitVec 32) : EReal := FloatOps.ofBits (F := Ideal) .f32 (IntOp.shli .vector f 23#32)

/-- One step of the binary search: add `k` to `lo` if the power of two there is not above `a`. -/
def stp (a : EReal) (k lo : BitVec 32) : BitVec 32 :=
  Scalar.select (FloatOps.cmpf (F := Ideal) (φ := .f32) .oge a (powOf (IntOp.addi lo k))) (IntOp.addi lo k) lo

/-- The exponent field of `a`, found by binary search. -/
def kField (a : EReal) : BitVec 32 :=
  stp a 1#32 (stp a 2#32 (stp a 4#32 (stp a 8#32 (stp a 16#32 (stp a 32#32 (stp a 64#32 (stp a 128#32 0#32)))))))

theorem powOf_ieee (f : BitVec 32) : powOf f = Ideal.ieee 8 23 (f <<< 23) := rfl

theorem powOf_zero : powOf (BitVec.ofNat 32 0) = 0 := by
  rw [powOf_ieee]; simp [Ideal.ieee]

theorem powOf_top : powOf (BitVec.ofNat 32 255) = ⊤ := by
  rw [powOf_ieee]; simp [Ideal.ieee]

theorem ieee_fields (g : ℕ) (h1 : g < 256) :
    ((BitVec.ofNat 32 g <<< 23).extractLsb' 23 8).toNat = g ∧ ((BitVec.ofNat 32 g <<< 23).extractLsb' 0 23).toNat = 0
      ∧ ((BitVec.ofNat 32 g <<< 23).extractLsb' 31 1 == 1#1) = false := by
  revert g; decide +kernel

theorem ieee_pow (b : BitVec 32) (g : ℕ) (h0 : g ≠ 0) (h1 : g ≠ 255) (e1 : (b.extractLsb' 23 8).toNat = g)
    (e2 : (b.extractLsb' 0 23).toNat = 0) (e3 : (b.extractLsb' 31 1 == 1#1) = false) :
    Ideal.ieee 8 23 b = (((2 : ℝ) ^ ((g : ℤ) - 127) : ℝ) : EReal) := by
  have key : Ideal.ieee 8 23 b = ((1 * (2 ^ 23 + 0 : ℕ) * (2 : ℝ) ^ ((g : ℤ) - 127 - 23) : ℝ) : EReal) := by
    unfold Ideal.ieee
    simp only [e1, e2, e3, Nat.reduceAdd]
    rw [if_neg (by simpa using h1), if_neg h0]
    norm_num
  rw [key, zpow_sub₀ (by norm_num : (2:ℝ) ≠ 0) _ 23]
  congr 1
  norm_num
  field_simp

/-- For a field from 1 to 254 that value is the power of two with the field's exponent. -/
theorem powOf_mid (g : ℕ) (h0 : 1 ≤ g) (h1 : g ≤ 254) :
    powOf (BitVec.ofNat 32 g) = (((2 : ℝ) ^ ((g : ℤ) - 127) : ℝ) : EReal) := by
  obtain ⟨e1, e2, e3⟩ := ieee_fields g (by omega)
  exact ieee_pow _ g (by omega) (by omega) e1 e2 e3

/-- The power of two at field `g` is not above `a`. -/
def Below (a : ℝ) (g : ℕ) : Prop := powOf (BitVec.ofNat 32 g) ≤ (a : EReal)

theorem stp_eq (a : ℝ) (k n : ℕ) :
    (stp a (BitVec.ofNat 32 k) (BitVec.ofNat 32 n) = BitVec.ofNat 32 (n + k) ∧ Below a (n + k))
      ∨ (stp a (BitVec.ofNat 32 k) (BitVec.ofNat 32 n) = BitVec.ofNat 32 n ∧ ¬ Below a (n + k)) := by
  have hadd : IntOp.addi (BitVec.ofNat 32 n) (BitVec.ofNat 32 k) = BitVec.ofNat 32 (n + k) := by
    simp [IntOp.addi, BitVec.ofNat_add]
  unfold stp Below
  rw [hadd]
  by_cases h : powOf (BitVec.ofNat 32 (n + k)) ≤ (a : EReal)
  · left; refine ⟨?_, h⟩
    have : FloatOps.cmpf (F := Ideal) (φ := .f32) .oge (a : EReal) (powOf (BitVec.ofNat 32 (n + k))) = 1#1 := by
      show Ideal.cmp .oge _ _ = _
      simp [Ideal.cmp, h]
    rw [this]; rfl
  · right; refine ⟨?_, h⟩
    have : FloatOps.cmpf (F := Ideal) (φ := .f32) .oge (a : EReal) (powOf (BitVec.ofNat 32 (n + k))) = 0#1 := by
      show Ideal.cmp .oge _ _ = _
      simp [Ideal.cmp, h]
    rw [this]; rfl

/-- What the search keeps: the field found so far is not above, the end of the interval is. -/
def Inv (a : ℝ) (w : BitVec 32) (k : ℕ) : Prop :=
  ∃ n, w = BitVec.ofNat 32 n ∧ n + k ≤ 256 ∧ (n = 0 ∨ Below a n) ∧ (n + k = 256 ∨ ¬ Below a (n + k))

theorem Inv.step {a : ℝ} {w : BitVec 32} {k : ℕ} (h : Inv a w (2 * k)) : Inv a (stp a (BitVec.ofNat 32 k) w) k := by
  obtain ⟨n, rfl, hn, h0, h1⟩ := h
  rcases stp_eq a k n with ⟨e, hb⟩ | ⟨e, hb⟩
  · refine ⟨n + k, e, by omega, Or.inr hb, ?_⟩
    rcases h1 with h1 | h1
    · left; omega
    · right; rwa [show n + k + k = n + 2 * k by ring]
  · exact ⟨n, e, by omega, h0, Or.inr hb⟩

/-- The search finds the field of the greatest power of two not above `a`, from 0 to 254. -/
theorem kField_spec (a : ℝ) (ha : 0 ≤ a) :
    ∃ g : ℕ, g ≤ 254 ∧ kField a = BitVec.ofNat 32 g ∧ (g = 0 ∨ (2 : ℝ) ^ ((g : ℤ) - 127) ≤ a)
      ∧ (g = 254 ∨ a < (2 : ℝ) ^ ((g : ℤ) - 126)) := by
  have h0 : Inv a 0#32 (2 * 128) := ⟨0, rfl, by omega, Or.inl rfl, Or.inl rfl⟩
  have h : Inv a (kField a) 1 :=
    (((((((h0.step.step (k := 64)).step (k := 32)).step (k := 16)).step (k := 8)).step (k := 4)).step (k := 2)).step (k := 1))
  obtain ⟨g, e, hg, hl, hh⟩ := h
  have hg254 : g ≤ 254 := by
    by_contra hc
    have : g = 255 := by omega
    subst this
    rcases hl with hl | hl
    · omega
    · unfold Below at hl; rw [powOf_top] at hl; simp at hl
  refine ⟨g, hg254, e, ?_, ?_⟩
  · rcases hl with hl | hl
    · exact Or.inl hl
    · rcases Nat.eq_zero_or_pos g with h | h
      · exact Or.inl h
      · right; unfold Below at hl; rw [powOf_mid g h hg254] at hl; exact_mod_cast hl
  · rcases hh with hh | hh
    · omega
    · by_cases h : g = 254
      · exact Or.inl h
      · right; unfold Below at hh; rw [powOf_mid (g+1) (by omega) (by omega), not_le] at hh
        have : ((g + 1 : ℕ) : ℤ) - 127 = (g : ℤ) - 126 := by push_cast; ring
        rw [this] at hh; exact_mod_cast hh

/-- The exponent of a block by the textbook: the integer part of the logarithm, held to what eight bits can write. -/
def eI (a : ℝ) : ℤ := max (-127) (min 127 ⌊Real.log a / Real.log 2⌋)

theorem floor_log (a : ℝ) (ha : 0 < a) (z : ℤ) : z ≤ ⌊Real.log a / Real.log 2⌋ ↔ (2 : ℝ) ^ z ≤ a := by
  rw [Int.le_floor, le_div_iff₀ (Real.log_pos (by norm_num)), ← Real.log_zpow,
    Real.log_le_log_iff (by positivity) ha]

/-- The search's field, less the bias, is that exponent. -/
theorem kField_eq (a : ℝ) (ha : 0 < a) :
    ∃ g : ℕ, g ≤ 254 ∧ kField a = BitVec.ofNat 32 g ∧ ((g : ℤ) - 127 = eI a) := by
  obtain ⟨g, hg, e, hl, hh⟩ := kField_spec a ha.le
  refine ⟨g, hg, e, ?_⟩
  have h1 : g = 0 ∨ (g : ℤ) - 127 ≤ ⌊Real.log a / Real.log 2⌋ := hl.imp id (floor_log a ha _).2
  have h2 : g = 254 ∨ ⌊Real.log a / Real.log 2⌋ < (g : ℤ) - 126 :=
    hh.imp id fun h => by rw [← not_le, floor_log a ha, not_le]; exact h
  unfold eI
  omega

end Cert.Quant
-- ==== Proof.Quant.Code.lean ====
/- What one block's exponent, the two powers made of it and one element's 4-bit float are, as real numbers. -/
module

public import proofs.«01_k».proof.Proof.Quant.Scalar

@[expose] public section

noncomputable section

namespace Cert.Quant

open Idealize.ShloMosaic

/-- A 32-bit float constant. -/
abbrev cst (b : BitVec 32) : EReal := FloatOps.ofBits (F := Ideal) .f32 b

/-- The root mean square of a block from the sum of the squares of its unscaled rotation. -/
def kRms (s : EReal) : EReal := FloatOps.sqrt (F := Ideal) (φ := .f32) (FloatOps.mulf (F := Ideal) (φ := .f32) s (cst 0x3A800000#32))
/-- The magnitude whose exponent the block is scaled by. -/
def kA (s : EReal) : EReal :=
  FloatOps.mulf (F := Ideal) (φ := .f32) (FloatOps.mulf (F := Ideal) (φ := .f32) (cst 0x403AE148#32) (kRms s)) (cst 0x3E2AAAAB#32)
/-- The block's exponent as a 32-bit integer. -/
def kExp (s : EReal) : BitVec 32 :=
  Scalar.select (FloatOps.cmpf (F := Ideal) (φ := .f32) .oeq (kRms s) (cst 0x00000000#32)) 0#32 (IntOp.subi (kField (kA s)) 127#32)
/-- The power of two a block is multiplied by before rounding. -/
def kInv (s : EReal) : EReal := powOf (IntOp.subi 127#32 (kExp s))
/-- The power of two a block is multiplied by after rounding. -/
def kScale (s : EReal) : EReal := powOf (IntOp.addi 127#32 (kExp s))

/-- The factor 2.92 as the 32-bit float it is written with. -/
def cAlpha : ℝ := 12247368 / 4194304
/-- One sixth as the 32-bit float it is written with. -/
def cSixth : ℝ := 11184811 / 67108864

theorem cst_alpha : cst 0x403AE148#32 = (cAlpha : EReal) := by
  show Ideal.ofBits .f32 _ = _
  simp [Ideal.ofBits, Ideal.ieee, cAlpha, -EReal.coe_mul]; norm_num
theorem cst_sixth : cst 0x3E2AAAAB#32 = (cSixth : EReal) := by
  show Ideal.ofBits .f32 _ = _
  simp [Ideal.ofBits, Ideal.ieee, cSixth, -EReal.coe_mul]; norm_num
theorem cst_1024 : cst 0x3A800000#32 = ((1 / 1024 : ℝ) : EReal) := by
  show Ideal.ofBits .f32 _ = _
  simp [Ideal.ofBits, Ideal.ieee, -EReal.coe_mul]; norm_num
theorem cst_zero : cst 0x00000000#32 = ((0 : ℝ) : EReal) := by
  show Ideal.ofBits .f32 _ = _
  simp [Ideal.ofBits, Ideal.ieee]

/-- The root mean square of a rotated block whose unscaled rotation has sum of squares `s`. -/
def rms (s : ℝ) : ℝ := Real.sqrt (s / 1024)
/-- The magnitude whose exponent the block is scaled by, as a real. -/
def aR (s : ℝ) : ℝ := cAlpha * rms s * cSixth
/-- The block's exponent. -/
def eB (s : ℝ) : ℤ := if rms s = 0 then 0 else eI (aR s)
/-- The power of two a block is multiplied by before rounding: the smallest is flushed to zero. -/
def invR (s : ℝ) : ℝ := if 126 < eB s then 0 else (2 : ℝ) ^ (-eB s)
/-- The power of two a block is multiplied by after rounding: the smallest is flushed to zero. -/
def scaleR (s : ℝ) : ℝ := if eB s < -126 then 0 else (2 : ℝ) ^ (eB s)

theorem kRms_coe (s : ℝ) (hs : 0 ≤ s) : kRms (s : EReal) = (rms s : EReal) := by
  unfold kRms
  rw [cst_1024]
  show Ideal.sqrt ((s : EReal) * ((1 / 1024 : ℝ) : EReal)) = _
  rw [← EReal.coe_mul, Ideal.sqrt_coe, if_neg (by have : 0 ≤ s * (1 / 1024) := by positivity
                                                  linarith)]
  rw [rms, mul_one_div]

theorem kA_coe (s : ℝ) (hs : 0 ≤ s) : kA (s : EReal) = (aR s : EReal) := by
  unfold kA
  rw [kRms_coe s hs, cst_alpha, cst_sixth]
  show (cAlpha : EReal) * (rms s : EReal) * (cSixth : EReal) = _
  rw [← EReal.coe_mul, ← EReal.coe_mul, aR]

/-- The exponent the kernel finds is the block's exponent. -/
theorem kExp_eq (s : ℝ) (hs : 0 ≤ s) :
    ∃ g : ℕ, g ≤ 254 ∧ kExp (s : EReal) = BitVec.ofNat 32 g - 127#32 ∧ (g : ℤ) - 127 = eB s := by
  unfold kExp eB
  rw [kRms_coe s hs, kA_coe s hs, cst_zero]
  by_cases h : rms s = 0
  · refine ⟨127, by norm_num, ?_, by rw [if_pos h]; norm_num⟩
    have : FloatOps.cmpf (F := Ideal) (φ := .f32) .oeq (rms s : EReal) ((0 : ℝ) : EReal) = 1#1 := by
      show Ideal.cmp .oeq _ _ = _
      simp [Ideal.cmp, h]
    rw [this]; rfl
  · have hpos : 0 < aR s := by
      have : 0 < rms s := lt_of_le_of_ne (Real.sqrt_nonneg _) (Ne.symm h)
      unfold aR cAlpha cSixth; positivity
    obtain ⟨g, hg, e, he⟩ := kField_eq (aR s) hpos
    refine ⟨g, hg, ?_, by rw [if_neg h]; exact he⟩
    have : FloatOps.cmpf (F := Ideal) (φ := .f32) .oeq (rms s : EReal) ((0 : ℝ) : EReal) = 0#1 := by
      show Ideal.cmp .oeq _ _ = _
      simp [Ideal.cmp, h]
    rw [this, e]; rfl

theorem powOf_coe (g : ℕ) (hg : g ≤ 254) :
    powOf (BitVec.ofNat 32 g) = ((if g = 0 then 0 else (2 : ℝ) ^ ((g : ℤ) - 127) : ℝ) : EReal) := by
  by_cases h : g = 0
  · subst h; rw [powOf_zero]; simp
  · rw [if_neg h, powOf_mid g (by omega) hg]

theorem kInv_coe (s : ℝ) (hs : 0 ≤ s) : kInv (s : EReal) = (invR s : EReal) := by
  obtain ⟨g, hg, e, he⟩ := kExp_eq s hs
  unfold kInv invR
  rw [e]
  have : IntOp.subi 127#32 (BitVec.ofNat 32 g - 127#32) = BitVec.ofNat 32 (254 - g) := by
    show 127#32 - (BitVec.ofNat 32 g - 127#32) = _
    apply BitVec.eq_of_toNat_eq
    simp [BitVec.toNat_sub]; omega
  rw [this, powOf_coe _ (by omega)]
  congr 1
  by_cases h : g = 254
  · rw [if_pos (by omega), if_pos (by omega)]
  · rw [if_neg (by omega), if_neg (by omega)]; congr 1; omega

theorem kScale_coe (s : ℝ) (hs : 0 ≤ s) : kScale (s : EReal) = (scaleR s : EReal) := by
  obtain ⟨g, hg, e, he⟩ := kExp_eq s hs
  unfold kScale scaleR
  rw [e]
  have : IntOp.addi 127#32 (BitVec.ofNat 32 g - 127#32) = BitVec.ofNat 32 g := by
    show 127#32 + (BitVec.ofNat 32 g - 127#32) = _
    apply BitVec.eq_of_toNat_eq
    simp [BitVec.toNat_sub, BitVec.toNat_add]; omega
  rw [this, powOf_coe _ (by omega)]
  congr 1
  by_cases h : g = 0
  · rw [if_pos (by omega), if_pos (by omega)]
  · rw [if_neg (by omega), if_neg (by omega)]; congr 1

/-- The biased exponent as an 8-bit integer. -/
theorem kCode_eq (s : ℝ) (hs : 0 ≤ s) :
    (IntOp.addi (kExp (s : EReal)) 127#32).setWidth 8 = BitVec.ofInt 8 (eB s + 127) := by
  obtain ⟨g, hg, e, he⟩ := kExp_eq s hs
  rw [e, ← he]
  show ((BitVec.ofNat 32 g - 127#32) + 127#32).setWidth 8 = _
  rw [BitVec.sub_add_cancel, show (g : ℤ) - 127 + 127 = (g : ℤ) by ring]
  apply BitVec.eq_of_toNat_eq
  simp

/-! ## The 4-bit float -/

/-- The 4-bit code of a value: the sign bit and the number of thresholds it passes. -/
def kNib (c : EReal) : BitVec 32 :=
  let m := FloatOps.absf (F := Ideal) (φ := .f32) c
  let cmp := fun p b => (FloatOps.cmpf (F := Ideal) (φ := .f32) p m (cst b)).setWidth 32
  IntOp.addi (IntOp.addi (IntOp.addi (IntOp.addi (IntOp.addi (IntOp.addi (IntOp.addi
    (Scalar.select (FloatOps.cmpf (F := Ideal) (φ := .f32) .olt c (cst 0x00000000#32)) 8#32 0#32)
    (cmp .ogt 0x3E800000#32)) (cmp .oge 0x3F400000#32)) (cmp .ogt 0x3FA00000#32)) (cmp .oge 0x3FE00000#32))
    (cmp .ogt 0x40200000#32)) (cmp .oge 0x40600000#32)) (cmp .ogt 0x40A00000#32)

/-- The magnitude of a 4-bit code, found by comparing its low three bits with the eight numbers. -/
def kMag (n3 : BitVec 32) : EReal :=
  Scalar.select (IntOp.cmpi .eq n3 7#32) (cst 0x40C00000#32) <|
  Scalar.select (IntOp.cmpi .eq n3 6#32) (cst 0x40800000#32) <|
  Scalar.select (IntOp.cmpi .eq n3 5#32) (cst 0x40400000#32) <|
  Scalar.select (IntOp.cmpi .eq n3 4#32) (cst 0x40000000#32) <|
  Scalar.select (IntOp.cmpi .eq n3 3#32) (cst 0x3FC00000#32) <|
  Scalar.select (IntOp.cmpi .eq n3 2#32) (cst 0x3F800000#32) <|
  Scalar.select (IntOp.cmpi .eq n3 1#32) (cst 0x3F000000#32) <|
  Scalar.select (IntOp.cmpi .eq n3 0#32) (cst 0x00000000#32) (cst 0x00000000#32)

/-- The value of a 4-bit code. -/
def kVal (n : BitVec 32) : EReal :=
  Scalar.select (IntOp.cmpi .sge n 8#32)
    (FloatOps.subf (F := Ideal) (φ := .f32) (cst 0x00000000#32) (kMag (IntOp.andi n 7#32))) (kMag (IntOp.andi n 7#32))

/-- A value held to the range of the 4-bit float. -/
def clipR (c : ℝ) : ℝ := min 6 (max (-6) c)
/-- The distance of neighbours of the 4-bit float at a magnitude. -/
def stepR (m : ℝ) : ℝ := if m < 2 then 1 / 2 else if m < 4 then 1 else 2
/-- A value rounded to the nearest 4-bit float, ties to the even code. -/
def quantR (c : ℝ) : ℝ :=
  ((SignType.sign (clipR c) : ℝ) * stepR |clipR c|) * (Ideal.roundHalfEven (|clipR c| * (1 / stepR |clipR c|)) : ℝ)

/-- Rounding to the nearest integer `n`: within a half, or at a half if `n` is even. -/
theorem rhe (x : ℝ) (n : ℤ) (h : |x - n| < 1 / 2 ∨ (Even n ∧ |x - n| ≤ 1 / 2)) : Ideal.roundHalfEven x = n := by
  have hab : |x - n| ≤ 1 / 2 := h.elim le_of_lt And.right
  obtain ⟨h1, h2⟩ := abs_le.1 hab
  unfold Ideal.roundHalfEven
  by_cases hn : (n : ℝ) ≤ x
  · have hf : ⌊x⌋ = n := Int.floor_eq_iff.2 ⟨hn, by linarith⟩
    simp only [hf]
    rcases h with h | ⟨he, h⟩
    · rw [if_pos (abs_lt.1 h).2]
    · split_ifs with a b
      · rfl
      · exfalso; linarith
      · rfl
  · push Not at hn
    have hf : ⌊x⌋ = n - 1 := Int.floor_eq_iff.2 ⟨by push_cast; linarith, by push_cast; linarith⟩
    simp only [hf]
    have hx : x - ((n - 1 : ℤ) : ℝ) = x - n + 1 := by push_cast; ring
    rw [hx]
    rcases h with h | ⟨he, h⟩
    · have := (abs_lt.1 h).1
      rw [if_neg (by linarith), if_pos (by linarith)]; ring
    · split_ifs with a b c
      · exfalso; linarith
      · ring
      · exfalso; exact (Int.even_sub_one.1 c) he
      · ring

/-- The magnitude a nonnegative value is rounded to. -/
def magR (m : ℝ) : ℝ := stepR (min m 6) * (Ideal.roundHalfEven (min m 6 * (1 / stepR (min m 6))) : ℝ)

theorem quantR_eq (c : ℝ) : quantR c = if c < 0 then -magR |c| else magR |c| := by
  have hz : magR 0 = 0 := by
    unfold magR
    have : min (0 : ℝ) 6 = 0 := by norm_num
    rw [this, zero_mul, rhe 0 0 (by norm_num)]; simp
  have hc : |clipR c| = min |c| 6 := by
    unfold clipR
    rcases le_total c 0 with h | h
    · rw [abs_of_nonpos h, abs_of_nonpos (by
        apply le_trans (min_le_right _ _); exact max_le (by norm_num) h)]
      rcases le_total c (-6) with h' | h'
      · rw [max_eq_left h', min_eq_right (by norm_num), min_eq_right (by linarith)]; norm_num
      · rw [max_eq_right h', min_eq_right (by linarith), min_eq_left (by linarith)]
    · rw [abs_of_nonneg h, max_eq_right (by linarith), abs_of_nonneg (by positivity), min_comm]
  have hs : SignType.sign (clipR c) = SignType.sign c := by
    unfold clipR
    rcases lt_trichotomy c 0 with h | h | h
    · rw [sign_neg h, sign_neg]
      exact lt_of_le_of_lt (min_le_right _ _) (max_lt (by norm_num) h)
    · subst h; norm_num
    · rw [sign_pos h, sign_pos]
      rw [max_eq_right (by linarith)]; positivity
  unfold quantR
  rw [hs, hc, mul_assoc]
  show _ * magR |c| = _
  rcases lt_trichotomy c 0 with h | h | h
  · rw [sign_neg h, if_pos h]; simp
  · subst h; simp [hz]
  · rw [sign_pos h, if_neg (by linarith)]; simp

theorem gt_eq (m t : ℝ) (b : BitVec 32) (h : cst b = (t : EReal)) :
    FloatOps.cmpf (F := Ideal) (φ := .f32) .ogt (m : EReal) (cst b) = BitVec.ofBool (decide (t < m)) := by
  rw [h]; show Ideal.cmp _ _ _ = _; simp [Ideal.cmp]
theorem ge_eq (m t : ℝ) (b : BitVec 32) (h : cst b = (t : EReal)) :
    FloatOps.cmpf (F := Ideal) (φ := .f32) .oge (m : EReal) (cst b) = BitVec.ofBool (decide (t ≤ m)) := by
  rw [h]; show Ideal.cmp _ _ _ = _; simp [Ideal.cmp]
theorem lt_eq (m t : ℝ) (b : BitVec 32) (h : cst b = (t : EReal)) :
    FloatOps.cmpf (F := Ideal) (φ := .f32) .olt (m : EReal) (cst b) = BitVec.ofBool (decide (m < t)) := by
  rw [h]; show Ideal.cmp _ _ _ = _; simp [Ideal.cmp]

theorem c025 : cst 0x3E800000#32 = ((1 / 4 : ℝ) : EReal) := by
  show Ideal.ofBits .f32 _ = _
  simp [Ideal.ofBits, Ideal.ieee, -EReal.coe_mul]; norm_num
theorem c075 : cst 0x3F400000#32 = ((3 / 4 : ℝ) : EReal) := by
  show Ideal.ofBits .f32 _ = _
  simp [Ideal.ofBits, Ideal.ieee, -EReal.coe_mul]; norm_num
theorem c125 : cst 0x3FA00000#32 = ((5 / 4 : ℝ) : EReal) := by
  show Ideal.ofBits .f32 _ = _
  simp [Ideal.ofBits, Ideal.ieee, -EReal.coe_mul]; norm_num
theorem c175 : cst 0x3FE00000#32 = ((7 / 4 : ℝ) : EReal) := by
  show Ideal.ofBits .f32 _ = _
  simp [Ideal.ofBits, Ideal.ieee, -EReal.coe_mul]; norm_num
theorem c25 : cst 0x40200000#32 = ((5 / 2 : ℝ) : EReal) := by
  show Ideal.ofBits .f32 _ = _
  simp [Ideal.ofBits, Ideal.ieee, -EReal.coe_mul]; norm_num
theorem c35 : cst 0x40600000#32 = ((7 / 2 : ℝ) : EReal) := by
  show Ideal.ofBits .f32 _ = _
  simp [Ideal.ofBits, Ideal.ieee, -EReal.coe_mul]; norm_num
theorem c50 : cst 0x40A00000#32 = ((5 : ℝ) : EReal) := by
  show Ideal.ofBits .f32 _ = _
  simp [Ideal.ofBits, Ideal.ieee, -EReal.coe_mul]; norm_num
theorem c05 : cst 0x3F000000#32 = ((1 / 2 : ℝ) : EReal) := by
  show Ideal.ofBits .f32 _ = _
  simp [Ideal.ofBits, Ideal.ieee, -EReal.coe_mul]; norm_num
theorem c10 : cst 0x3F800000#32 = ((1 : ℝ) : EReal) := by
  show Ideal.ofBits .f32 _ = _
  simp [Ideal.ofBits, Ideal.ieee, -EReal.coe_mul]; norm_num
theorem c15 : cst 0x3FC00000#32 = ((3 / 2 : ℝ) : EReal) := by
  show Ideal.ofBits .f32 _ = _
  simp [Ideal.ofBits, Ideal.ieee, -EReal.coe_mul]; norm_num
theorem c20 : cst 0x40000000#32 = ((2 : ℝ) : EReal) := by
  show Ideal.ofBits .f32 _ = _
  simp [Ideal.ofBits, Ideal.ieee, -EReal.coe_mul]; norm_num
theorem c30 : cst 0x40400000#32 = ((3 : ℝ) : EReal) := by
  show Ideal.ofBits .f32 _ = _
  simp [Ideal.ofBits, Ideal.ieee, -EReal.coe_mul]; norm_num
theorem c40 : cst 0x40800000#32 = ((4 : ℝ) : EReal) := by
  show Ideal.ofBits .f32 _ = _
  simp [Ideal.ofBits, Ideal.ieee, -EReal.coe_mul]; norm_num
theorem c60 : cst 0x40C00000#32 = ((6 : ℝ) : EReal) := by
  show Ideal.ofBits .f32 _ = _
  simp [Ideal.ofBits, Ideal.ieee, -EReal.coe_mul]; norm_num

/-- The code of a value from the eight comparisons decided. -/
def nibOf (s b1 b2 b3 b4 b5 b6 b7 : Bool) : BitVec 32 :=
  let z := fun b : Bool => (BitVec.ofBool b).setWidth 32
  IntOp.addi (IntOp.addi (IntOp.addi (IntOp.addi (IntOp.addi (IntOp.addi (IntOp.addi
    (Scalar.select (BitVec.ofBool s) 8#32 0#32) (z b1)) (z b2)) (z b3)) (z b4)) (z b5)) (z b6)) (z b7)

theorem kNib_eq (c : ℝ) : kNib (c : EReal) = nibOf (decide (c < 0)) (decide (1 / 4 < |c|)) (decide (3 / 4 ≤ |c|))
    (decide (5 / 4 < |c|)) (decide (7 / 4 ≤ |c|)) (decide (5 / 2 < |c|)) (decide (7 / 2 ≤ |c|)) (decide (5 < |c|)) := by
  have hm : FloatOps.absf (F := Ideal) (φ := .f32) (c : EReal) = ((|c| : ℝ) : EReal) := by
    show max (c : EReal) (-(c : EReal)) = _
    rw [abs_eq_max_neg]; norm_cast
  unfold kNib
  simp only [hm]
  rw [gt_eq _ _ _ c025, ge_eq _ _ _ c075, gt_eq _ _ _ c125, ge_eq _ _ _ c175, gt_eq _ _ _ c25, ge_eq _ _ _ c35,
    gt_eq _ _ _ c50, lt_eq _ _ _ cst_zero]
  rfl

theorem val_neg {n : BitVec 32} {x : ℝ} {v : EReal} (hv : v = (x : EReal))
    (h : kVal n = FloatOps.subf (F := Ideal) (φ := .f32) (cst 0x00000000#32) v) : kVal n = ((-x : ℝ) : EReal) := by
  rw [h, hv, cst_zero]
  show ((0 : ℝ) : EReal) - (x : EReal) = _
  rw [← EReal.coe_sub, zero_sub]

/-- The two codes with a given count of thresholds passed stand for a magnitude and its negative. -/
theorem val_of {x : ℝ} {v : EReal} (hv : v = (x : EReal)) {b1 b2 b3 b4 b5 b6 b7 : Bool}
    (hn : kVal (nibOf true b1 b2 b3 b4 b5 b6 b7) = FloatOps.subf (F := Ideal) (φ := .f32) (cst 0x00000000#32) v)
    (hp : kVal (nibOf false b1 b2 b3 b4 b5 b6 b7) = v) (c : ℝ) :
    kVal (nibOf (decide (c < 0)) b1 b2 b3 b4 b5 b6 b7) = ((if c < 0 then -x else x : ℝ) : EReal) := by
  by_cases h : c < 0
  · rw [if_pos h, decide_eq_true h]; exact val_neg hv hn
  · rw [if_neg h, decide_eq_false h, hp, hv]

theorem mag_of (m s : ℝ) (n : ℤ) (hs : stepR (min m 6) = s)
    (h : |min m 6 * (1 / s) - n| < 1 / 2 ∨ (Even n ∧ |min m 6 * (1 / s) - n| ≤ 1 / 2)) : magR m = s * n := by
  unfold magR; rw [hs, rhe _ n h]

/-- The code of a value stands for the value rounded to the nearest 4-bit float. -/
theorem kVal_kNib (c : ℝ) : kVal (kNib (c : EReal)) = (quantR c : EReal) := by
  rw [kNib_eq, quantR_eq]
  have h0 : 0 ≤ |c| := abs_nonneg c
  generalize |c| = m at h0
  by_cases h1 : 1 / 4 < m
  swap
  · rw [decide_eq_false h1, decide_eq_false (by linarith : ¬ 3 / 4 ≤ m), decide_eq_false (by linarith : ¬ 5 / 4 < m),
      decide_eq_false (by linarith : ¬ 7 / 4 ≤ m), decide_eq_false (by linarith : ¬ 5 / 2 < m),
      decide_eq_false (by linarith : ¬ 7 / 2 ≤ m), decide_eq_false (by linarith : ¬ 5 < m)]
    have hm : min m 6 = m := min_eq_left (by linarith)
    rw [mag_of m (1 / 2) 0 (by rw [hm, stepR, if_pos (by linarith)])
      (Or.inr ⟨by decide, by rw [hm, abs_le]; push_cast; constructor <;> linarith⟩)]
    exact val_of (v := cst 0x00000000#32) (by rw [cst_zero]; norm_num) rfl rfl c
  rw [decide_eq_true h1]
  by_cases h2 : 3 / 4 ≤ m
  swap
  · rw [decide_eq_false h2, decide_eq_false (by linarith : ¬ 5 / 4 < m),
      decide_eq_false (by linarith : ¬ 7 / 4 ≤ m), decide_eq_false (by linarith : ¬ 5 / 2 < m),
      decide_eq_false (by linarith : ¬ 7 / 2 ≤ m), decide_eq_false (by linarith : ¬ 5 < m)]
    have hm : min m 6 = m := min_eq_left (by linarith)
    rw [mag_of m (1 / 2) 1 (by rw [hm, stepR, if_pos (by linarith)])
      (Or.inl (by rw [hm, abs_lt]; push_cast; constructor <;> linarith))]
    exact val_of (v := cst 0x3F000000#32) (by rw [c05]; norm_num) rfl rfl c
  rw [decide_eq_true h2]
  by_cases h3 : 5 / 4 < m
  swap
  · rw [decide_eq_false h3,
      decide_eq_false (by linarith : ¬ 7 / 4 ≤ m), decide_eq_false (by linarith : ¬ 5 / 2 < m),
      decide_eq_false (by linarith : ¬ 7 / 2 ≤ m), decide_eq_false (by linarith : ¬ 5 < m)]
    have hm : min m 6 = m := min_eq_left (by linarith)
    rw [mag_of m (1 / 2) 2 (by rw [hm, stepR, if_pos (by linarith)])
      (Or.inr ⟨by decide, by rw [hm, abs_le]; push_cast; constructor <;> linarith⟩)]
    exact val_of (v := cst 0x3F800000#32) (by rw [c10]; norm_num) rfl rfl c
  rw [decide_eq_true h3]
  by_cases h4 : 7 / 4 ≤ m
  swap
  · rw [decide_eq_false h4, decide_eq_false (by linarith : ¬ 5 / 2 < m),
      decide_eq_false (by linarith : ¬ 7 / 2 ≤ m), decide_eq_false (by linarith : ¬ 5 < m)]
    have hm : min m 6 = m := min_eq_left (by linarith)
    rw [mag_of m (1 / 2) 3 (by rw [hm, stepR, if_pos (by linarith)])
      (Or.inl (by rw [hm, abs_lt]; push_cast; constructor <;> linarith))]
    exact val_of (v := cst 0x3FC00000#32) (by rw [c15]; norm_num) rfl rfl c
  rw [decide_eq_true h4]
  by_cases h5 : 5 / 2 < m
  swap
  · rw [decide_eq_false h5, decide_eq_false (by linarith : ¬ 7 / 2 ≤ m), decide_eq_false (by linarith : ¬ 5 < m)]
    have hm : min m 6 = m := min_eq_left (by linarith)
    by_cases h : m < 2
    · rw [mag_of m (1 / 2) 4 (by rw [hm, stepR, if_pos h])
        (Or.inr ⟨by decide, by rw [hm, abs_le]; push_cast; constructor <;> linarith⟩)]
      exact val_of (v := cst 0x40000000#32) (by rw [c20]; norm_num) rfl rfl c
    · rw [mag_of m 1 2 (by rw [hm, stepR, if_neg h, if_pos (by linarith)])
        (Or.inr ⟨by decide, by rw [hm, abs_le]; push_cast; constructor <;> linarith⟩)]
      exact val_of (v := cst 0x40000000#32) (by rw [c20]; norm_num) rfl rfl c
  rw [decide_eq_true h5]
  by_cases h6 : 7 / 2 ≤ m
  swap
  · rw [decide_eq_false h6, decide_eq_false (by linarith : ¬ 5 < m)]
    have hm : min m 6 = m := min_eq_left (by linarith)
    rw [mag_of m 1 3 (by rw [hm, stepR, if_neg (by linarith), if_pos (by linarith)])
      (Or.inl (by rw [hm, abs_lt]; push_cast; constructor <;> linarith))]
    exact val_of (v := cst 0x40400000#32) (by rw [c30]; norm_num) rfl rfl c
  rw [decide_eq_true h6]
  by_cases h7 : 5 < m
  swap
  · rw [decide_eq_false h7]
    have hm : min m 6 = m := min_eq_left (by linarith)
    by_cases h : m < 4
    · rw [mag_of m 1 4 (by rw [hm, stepR, if_neg (by linarith), if_pos h])
        (Or.inr ⟨by decide, by rw [hm, abs_le]; push_cast; constructor <;> linarith⟩)]
      exact val_of (v := cst 0x40800000#32) (by rw [c40]; norm_num) rfl rfl c
    · rw [mag_of m 2 2 (by rw [hm, stepR, if_neg (by linarith), if_neg h])
        (Or.inr ⟨by decide, by rw [hm, abs_le]; push_cast; constructor <;> linarith⟩)]
      exact val_of (v := cst 0x40800000#32) (by rw [c40]; norm_num) rfl rfl c
  rw [decide_eq_true h7]
  have h5m : 5 < min m 6 := lt_min h7 (by norm_num)
  have h6m : min m 6 ≤ 6 := min_le_right _ _
  rw [mag_of m 2 3 (by rw [stepR, if_neg (by linarith), if_neg (by linarith)])
    (Or.inl (by rw [abs_lt]; push_cast; constructor <;> linarith))]
  exact val_of (v := cst 0x40C00000#32) (by rw [c60]; norm_num) rfl rfl c

end Cert.Quant
-- ==== Proof.Quant.Tile.lean ====
/- One tile of the kernel as whole vectors: rotated, scaled, rounded to 4 bits and multiplied back, and what one element
   of it is. The sizes stay variables: the kernel has tiles of 256 and of 64 columns. -/
module

public import proofs.«01_k».proof.Proof.Quant.Code
public import Idealize.ShloMosaic.Lib.MatmulPlain
public import Idealize.ShloMosaic.Lib.Pipeline.Value
public import Idealize.ShloMosaic.Lib.Pointwise.Reduce

@[expose] public section

noncomputable section

namespace Cert.Quant

open Idealize.ShloMosaic Idealize.ShloMosaic.ValueIdx
open scoped BigOperators

/-- One over the root of 32, the factor the rotation is scaled by. -/
def kap : EReal := (((Real.sqrt 32)⁻¹ : ℝ) : EReal)

section
variable (n K : ℕ)

/-- The shape facts one tile needs. -/
structure TileFacts : Prop where
  h1 : (⟨2, ![K, 256]⟩ : Shape).ShapeCasts ⟨3, ![n, 32, 256]⟩
  h2 : (⟨3, ![n, 32, 256]⟩ : Shape).Reduces [1] ⟨2, ![n, 256]⟩
  h3 : (⟨2, ![n, 256]⟩ : Shape).ShapeCasts ⟨3, ![n, 1, 256]⟩
  h4 : (⟨3, ![n, 1, 256]⟩ : Shape).Broadcasts ⟨3, ![n, 32, 256]⟩
  h5 : (⟨3, ![n, 32, 256]⟩ : Shape).ShapeCasts ⟨2, ![K, 256]⟩

variable {n K} (tf : TileFacts n K) (h : FVec Ideal ⟨2, ![K, K]⟩ .bf16) (t : FVec Ideal ⟨2, ![256, K]⟩ .bf16)

/-- The unscaled rotation of a tile, by blocks. -/
def tAcc : FVec Ideal ⟨3, ![n, 32, 256]⟩ .f32 :=
  shapeCast _ (matmul (DotDims.transposedRhs K K 256) none h t (constant ⟨2, ![K, 256]⟩ .f32 0x00000000#32)) tf.h1

/-- The sums of squares of its blocks. -/
def tSum : FVec Ideal ⟨2, ![n, 256]⟩ .f32 :=
  multiReduction .add [1] ⟨2, ![n, 256]⟩ (mulf (tAcc tf h t) (tAcc tf h t)) 0x00000000#32 tf.h2 (.inl rfl) rfl

/-- The scaled values that are rounded. -/
def tX : FVec Ideal ⟨2, ![K, 256]⟩ .f32 :=
  shapeCast _ (mulf (tAcc tf h t) (broadcastTo ⟨3, ![n, 32, 256]⟩
    (shapeCast ⟨3, ![n, 1, 256]⟩ (fun i => FloatOps.mulf (F := Ideal) (φ := .f32) (kInv (tSum tf h t i)) kap : FVec Ideal ⟨2, ![n, 256]⟩ .f32) tf.h3) tf.h4)) tf.h5

/-- The tile rounded to 4 bits and multiplied back. -/
def tDeq : FVec Ideal ⟨2, ![K, 256]⟩ .bf16 :=
  shapeCast _ (mulf (φ := .bf16) (shapeCast ⟨3, ![n, 32, 256]⟩ (fun i => kVal (kNib (tX tf h t i)) : FVec Ideal ⟨2, ![K, 256]⟩ .bf16) tf.h1)
    (broadcastTo ⟨3, ![n, 32, 256]⟩
      (shapeCast ⟨3, ![n, 1, 256]⟩ (fun i => kScale (tSum tf h t i) : FVec Ideal ⟨2, ![n, 256]⟩ .bf16) tf.h3) tf.h4)) tf.h5

/-- The tile's biased exponents. -/
def tCode : IVec ⟨2, ![n, 256]⟩ 32 := fun i => IntOp.addi (kExp (tSum tf h t i)) 127#32

end

end Cert.Quant
-- ==== Proof.Quant.Words.lean ====
/- What the words of the two runs of the ideal kernel are: tile by tile the codes, the products with the stored x tiles and
   the stored x tiles themselves. -/
module

public import proofs.«01_k».proof.Proof.Named.Value
public import proofs.«01_k».proof.Proof.Quant.Tile

@[expose] public section

noncomputable section

namespace Cert.KernelIdeal.Gen

open Cert.KernelIdeal Idealize.ShloMosaic Idealize.ShloMosaic.TcCoe Idealize.SL.Sem
open Cert.Quant

/-- The shape facts of a tile of 256 columns. -/
theorem tf8 : TileFacts 8 256 :=
  ⟨shapeCasts_S256x256_S8x32x256, reduces_S8x32x256_S8x256, shapeCasts_S8x256_S8x1x256, broadcasts_S8x1x256_S8x32x256,
    shapeCasts_S8x32x256_S256x256⟩
/-- The shape facts of the tile of 64 columns. -/
theorem tf2 : TileFacts 2 64 :=
  ⟨shapeCasts_S64x256_S2x32x256, reduces_S2x32x256_S2x256, shapeCasts_S2x256_S2x1x256, broadcasts_S2x1x256_S2x32x256,
    shapeCasts_S2x32x256_S64x256⟩

variable (c : Dev nD) (arg1 : Memref sig .tc .vmem S256x256 .bf16) (harg1 : arg1.IsWhole)
  (arg2 : Memref sig .tc .vmem S256x2880 .bf16) (harg2 : arg2.IsWhole)
  (arg3 : Memref sig .tc .vmem S256x2880 .bf16) (harg3 : arg3.IsWhole)
  (arg11 : Memref sig .tc .vmem S256x2880 .bf16) (harg11 : arg11.IsWhole)
  (x0 : Vec Ideal S256x256 .bf16) (x1 : Vec Ideal S256x2880 .bf16) (x2 xs0 : Vec Ideal S256x2880 .bf16)

/-- The loaded rotation. -/
def hT : FVec Ideal S256x256 .bf16 :=
  shapeCast S256x256 (View.readAt (Elt Ideal) arg1.view
    (Rect.unit (s := S256x256) ![0, 0] S256x256.size inb_S256x256_S256x256_0_0).toLoadRect (harg1.unread x0))
    shapeCasts_S256x256_S256x256
/-- Its corner of 64 rows and columns. -/
def hS : FVec Ideal S64x64 .bf16 := extractStridedSlice S64x64 ![0, 0] (hT arg1 harg1 x0) slices_S256x256_o0_0_S64x64
/-- A tile of 256 columns of a block of 256 rows. -/
def bT (o : ℕ) (inb : ∀ a, (![0, o] : Fin 2 → ℕ) a + S256x256.size a ≤ S256x2880.size a) : FVec Ideal S256x256 .bf16 :=
  View.readAt (Elt Ideal) arg3.view (Rect.unit (s := S256x2880) ![0, o] S256x256.size inb).toLoadRect (harg3.unread x2)
/-- Its last tile, of 64 columns. -/
def bS : FVec Ideal S256x64 .bf16 :=
  View.readAt (Elt Ideal) arg3.view
    (Rect.unit (s := S256x2880) ![0, 2816] S256x64.size inb_S256x2880_S256x64_0_2816).toLoadRect (harg3.unread x2)

/-- The codes of w tile 0. -/
theorem codeA_0 : kernelRun0_A.sl.v289 (F := Ideal) c arg1 harg1 arg3 harg3 x0 x2 =
    tCode tf8 (hT arg1 harg1 x0) (bT arg3 harg3 x2 0 inb_S256x2880_S256x256_0_0) := rfl

/-- The codes of w tile 1. -/
theorem codeA_1 : kernelRun0_A.sl.v578 (F := Ideal) c arg1 harg1 arg3 harg3 x0 x2 =
    tCode tf8 (hT arg1 harg1 x0) (bT arg3 harg3 x2 256 inb_S256x2880_S256x256_0_256) := rfl

/-- The codes of w tile 2. -/
theorem codeA_2 : kernelRun0_A.sl.v867 (F := Ideal) c arg1 harg1 arg3 harg3 x0 x2 =
    tCode tf8 (hT arg1 harg1 x0) (bT arg3 harg3 x2 512 inb_S256x2880_S256x256_0_512) := rfl

/-- The codes of w tile 3. -/
theorem codeA_3 : kernelRun0_A.sl.v1156 (F := Ideal) c arg1 harg1 arg3 harg3 x0 x2 =
    tCode tf8 (hT arg1 harg1 x0) (bT arg3 harg3 x2 768 inb_S256x2880_S256x256_0_768) := rfl

/-- The codes of w tile 4. -/
theorem codeA_4 : kernelRun0_A.sl.v1445 (F := Ideal) c arg1 harg1 arg3 harg3 x0 x2 =
    tCode tf8 (hT arg1 harg1 x0) (bT arg3 harg3 x2 1024 inb_S256x2880_S256x256_0_1024) := rfl

/-- The codes of w tile 5. -/
theorem codeA_5 : kernelRun0_A.sl.v1734 (F := Ideal) c arg1 harg1 arg3 harg3 x0 x2 =
    tCode tf8 (hT arg1 harg1 x0) (bT arg3 harg3 x2 1280 inb_S256x2880_S256x256_0_1280) := rfl

/-- The codes of w tile 6. -/
theorem codeA_6 : kernelRun0_A.sl.v2023 (F := Ideal) c arg1 harg1 arg3 harg3 x0 x2 =
    tCode tf8 (hT arg1 harg1 x0) (bT arg3 harg3 x2 1536 inb_S256x2880_S256x256_0_1536) := rfl

/-- The codes of w tile 7. -/
theorem codeA_7 : kernelRun0_A.sl.v2312 (F := Ideal) c arg1 harg1 arg3 harg3 x0 x2 =
    tCode tf8 (hT arg1 harg1 x0) (bT arg3 harg3 x2 1792 inb_S256x2880_S256x256_0_1792) := rfl

/-- The codes of w tile 8. -/
theorem codeA_8 : kernelRun0_A.sl.v2601 (F := Ideal) c arg1 harg1 arg3 harg3 x0 x2 =
    tCode tf8 (hT arg1 harg1 x0) (bT arg3 harg3 x2 2048 inb_S256x2880_S256x256_0_2048) := rfl

/-- The codes of w tile 9. -/
theorem codeA_9 : kernelRun0_A.sl.v2890 (F := Ideal) c arg1 harg1 arg3 harg3 x0 x2 =
    tCode tf8 (hT arg1 harg1 x0) (bT arg3 harg3 x2 2304 inb_S256x2880_S256x256_0_2304) := rfl

/-- The codes of w tile 10. -/
theorem codeA_10 : kernelRun0_A.sl.v3179 (F := Ideal) c arg1 harg1 arg3 harg3 x0 x2 =
    tCode tf8 (hT arg1 harg1 x0) (bT arg3 harg3 x2 2560 inb_S256x2880_S256x256_0_2560) := rfl

/-- The codes of the last w tile. -/
theorem codeA_11 : (addi (kernelRun0_A.sl.r_154 (F := Ideal) c arg1 harg1 arg3 harg3 x0 x2) (broadcast S2x256 127#32) : IVec S2x256 32) =
    tCode tf2 (hS arg1 harg1 x0) (bS arg3 harg3 x2) := rfl

/-- The codes of w tile 0. -/
theorem codeB_0 : kernelRun0_B.sl.v289 (F := Ideal) c arg1 harg1 arg3 harg3 x0 x2 =
    tCode tf8 (hT arg1 harg1 x0) (bT arg3 harg3 x2 0 inb_S256x2880_S256x256_0_0) := rfl

/-- The codes of w tile 1. -/
theorem codeB_1 : kernelRun0_B.sl.v578 (F := Ideal) c arg1 harg1 arg3 harg3 x0 x2 =
    tCode tf8 (hT arg1 harg1 x0) (bT arg3 harg3 x2 256 inb_S256x2880_S256x256_0_256) := rfl

/-- The codes of w tile 2. -/
theorem codeB_2 : kernelRun0_B.sl.v867 (F := Ideal) c arg1 harg1 arg3 harg3 x0 x2 =
    tCode tf8 (hT arg1 harg1 x0) (bT arg3 harg3 x2 512 inb_S256x2880_S256x256_0_512) := rfl

/-- The codes of w tile 3. -/
theorem codeB_3 : kernelRun0_B.sl.v1156 (F := Ideal) c arg1 harg1 arg3 harg3 x0 x2 =
    tCode tf8 (hT arg1 harg1 x0) (bT arg3 harg3 x2 768 inb_S256x2880_S256x256_0_768) := rfl

/-- The codes of w tile 4. -/
theorem codeB_4 : kernelRun0_B.sl.v1445 (F := Ideal) c arg1 harg1 arg3 harg3 x0 x2 =
    tCode tf8 (hT arg1 harg1 x0) (bT arg3 harg3 x2 1024 inb_S256x2880_S256x256_0_1024) := rfl

/-- The codes of w tile 5. -/
theorem codeB_5 : kernelRun0_B.sl.v1734 (F := Ideal) c arg1 harg1 arg3 harg3 x0 x2 =
    tCode tf8 (hT arg1 harg1 x0) (bT arg3 harg3 x2 1280 inb_S256x2880_S256x256_0_1280) := rfl

/-- The codes of w tile 6. -/
theorem codeB_6 : kernelRun0_B.sl.v2023 (F := Ideal) c arg1 harg1 arg3 harg3 x0 x2 =
    tCode tf8 (hT arg1 harg1 x0) (bT arg3 harg3 x2 1536 inb_S256x2880_S256x256_0_1536) := rfl

/-- The codes of w tile 7. -/
theorem codeB_7 : kernelRun0_B.sl.v2312 (F := Ideal) c arg1 harg1 arg3 harg3 x0 x2 =
    tCode tf8 (hT arg1 harg1 x0) (bT arg3 harg3 x2 1792 inb_S256x2880_S256x256_0_1792) := rfl

/-- The codes of w tile 8. -/
theorem codeB_8 : kernelRun0_B.sl.v2601 (F := Ideal) c arg1 harg1 arg3 harg3 x0 x2 =
    tCode tf8 (hT arg1 harg1 x0) (bT arg3 harg3 x2 2048 inb_S256x2880_S256x256_0_2048) := rfl

/-- The codes of w tile 9. -/
theorem codeB_9 : kernelRun0_B.sl.v2890 (F := Ideal) c arg1 harg1 arg3 harg3 x0 x2 =
    tCode tf8 (hT arg1 harg1 x0) (bT arg3 harg3 x2 2304 inb_S256x2880_S256x256_0_2304) := rfl

/-- The codes of w tile 10. -/
theorem codeB_10 : kernelRun0_B.sl.v3179 (F := Ideal) c arg1 harg1 arg3 harg3 x0 x2 =
    tCode tf8 (hT arg1 harg1 x0) (bT arg3 harg3 x2 2560 inb_S256x2880_S256x256_0_2560) := rfl

/-- The codes of the last w tile. -/
theorem codeB_11 : (addi (kernelRun0_B.sl.r_74 (F := Ideal) c arg1 harg1 arg3 harg3 x0 x2) (broadcast S2x256 127#32) : IVec S2x256 32) =
    tCode tf2 (hS arg1 harg1 x0) (bS arg3 harg3 x2) := rfl

end Cert.KernelIdeal.Gen
-- ==== Proof.Quant.Rotate.lean ====
/- The rotation of one block of 32 as mathematics: the matrix of signs, the rotated block, the sum of its squares, and the
   code and the values the block is replaced by. -/
module

public import proofs.«01_k».proof.Proof.Quant.Tile

@[expose] public section

noncomputable section

namespace Cert.Quant

open Idealize.ShloMosaic Idealize.ShloMosaic.ValueIdx
open scoped BigOperators

/-- The sign of a word: by the parity of the number of its ones. -/
def hadW (w : BitVec 32) : ℝ := if IntOp.andi (IntOp.ctpop w) 1#32 = 0#32 then 1 else -1
/-- The matrix of signs. -/
def had (i j : ℕ) : ℝ := hadW (BitVec.ofNat 32 i &&& BitVec.ofNat 32 j)

theorem had_comm (i j : ℕ) : had i j = had j i := by
  unfold had; rw [BitVec.and_comm]

/-- The words of two numbers, met and held to the low five bits, are the words of their remainders met. -/
theorem and31 (i j : ℕ) : (BitVec.ofNat 32 i &&& BitVec.ofNat 32 j) &&& 31#32
    = BitVec.ofNat 32 (i % 32) &&& BitVec.ofNat 32 (j % 32) := by
  have h (x : ℕ) : BitVec.ofNat 32 (x % 32) = BitVec.ofNat 32 x &&& 31#32 := by
    apply BitVec.eq_of_toNat_eq
    rw [BitVec.toNat_and, BitVec.toNat_ofNat, BitVec.toNat_ofNat, show (31#32).toNat = 2 ^ 5 - 1 from rfl,
      Nat.and_two_pow_sub_one_eq_mod]
    omega
  rw [h, h]
  rw [BitVec.and_assoc, BitVec.and_assoc, ← BitVec.and_assoc (31#32), BitVec.and_comm (31#32) (BitVec.ofNat 32 j), BitVec.and_assoc, BitVec.and_self]

/-- One element of the rotation, not scaled, of block `b` of a row. -/
def accR (X : ℕ → ℝ) (b i : ℕ) : ℝ := ∑ j : Fin 32, X (32 * b + j.val) * had j.val i
/-- The sum of squares of the rotation of a block. -/
def sR (X : ℕ → ℝ) (b : ℕ) : ℝ := ∑ i : Fin 32, accR X b i.val * accR X b i.val
/-- The value an element is replaced by. -/
def deqR (X : ℕ → ℝ) (k : ℕ) : ℝ :=
  quantR (accR X (k / 32) (k % 32) * (invR (sR X (k / 32)) * (Real.sqrt 32)⁻¹)) * scaleR (sR X (k / 32))
/-- The scale code of a block. -/
def codeR (X : ℕ → ℝ) (b : ℕ) : BitVec 8 := BitVec.ofInt 8 (eB (sR X b) + 127)

theorem sR_nonneg (X : ℕ → ℝ) (b : ℕ) : 0 ≤ sR X b := Finset.sum_nonneg fun i _ => mul_self_nonneg _

/-- A sum of reals is the sum of the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Quant
-- ==== Proof.Quant.TileMath.lean ====
/- One element of a tile, over real contents: the block's sum of squares, its code, and the value multiplied back. -/
module

public import proofs.«01_k».proof.Proof.Quant.Rotate

@[expose] public section

noncomputable section

namespace Cert.Quant

open Idealize.ShloMosaic
open scoped BigOperators

/-- The block diagonal matrix of signs. -/
def hadD (a k : ℕ) : ℝ := if a / 32 = k / 32 then had (a % 32) (k % 32) else 0

/-- A row of the block diagonal matrix picks one block. -/
theorem hadD_sum (n : ℕ) (X : ℕ → ℝ) (b0 b i : ℕ) (hb : b < n) (hi : i < 32) :
    ∑ k : Fin (32 * n), hadD (32 * b + i) k.val * X (32 * b0 + k.val) = accR X (b0 + b) i := by
  rw [accR]
  symm
  refine Finset.sum_of_injOn (fun j : Fin 32 => (⟨32 * b + j.val, by have := j.isLt; omega⟩ : Fin (32 * n))) ?_ (fun _ _ => Finset.mem_coe.2 (Finset.mem_univ _)) ?_ ?_
  · intro x _ y _ h
    have := congrArg Fin.val h
    apply Fin.ext
    simp only at this
    omega
  · intro k _ hk
    have : ¬ (32 * b + i) / 32 = k.val / 32 := by
      intro e
      refine hk ⟨⟨k.val % 32, by omega⟩, Finset.mem_coe.2 (Finset.mem_univ _), Fin.ext ?_⟩
      show 32 * b + k.val % 32 = k.val
      omega
    rw [hadD, if_neg this, zero_mul]
  · intro j _
    have hj := j.isLt
    show _ = hadD (32 * b + i) (32 * b + j.val) * X (32 * b0 + (32 * b + j.val))
    rw [hadD, if_pos (by omega), show (32 * b + i) % 32 = i by omega, show (32 * b + j.val) % 32 = j.val by omega, had_comm i, mul_comm,
      show 32 * b0 + (32 * b + j.val) = 32 * (b0 + b) + j.val by ring]

section
variable {n : ℕ} (tf : TileFacts n (32 * n)) (h : FVec Ideal ⟨2, ![32 * n, 32 * n]⟩ .bf16) (t : FVec Ideal ⟨2, ![256, 32 * n]⟩ .bf16)
  (X : ℕ → ℕ → ℝ) (b0 : ℕ) (hh : ∀ a k : Fin (32 * n), h (ix2 a k) = ((hadD a.val k.val : ℝ) : EReal))
  (ht : ∀ (r : Fin 256) (k : Fin (32 * n)), t (ix2 r k) = ((X r.val (32 * b0 + k.val) : ℝ) : EReal))
include hh ht

theorem tAcc_eq (b : Fin n) (i : Fin 32) (r : Fin 256) : tAcc tf h t (ix3 b i r) = ((accR (X r.val) (b0 + b.val) i.val : ℝ) : EReal) := by
  have hb := b.isLt
  have hi := i.isLt
  rw [tAcc, shapeCast_apply _ tf.h1 (ix3 b i r) (ix2 (⟨32 * b.val + i.val, by omega⟩ : Fin (32 * n)) r)
    (by rw [Shape.rowMajor_val_two, Shape.rowMajor_val_three]; show (32 * b.val + i.val) * 256 + r.val = (b.val * 32 + i.val) * 256 + r.val; ring)]
  refine (Ideal.matmul_transposedRhs_apply none h t _ _ _).trans ?_
  have hk (k : Fin (32 * n)) : h (ix2 (⟨32 * b.val + i.val, by omega⟩ : Fin (32 * n)) k) * t (ix2 r k)
      = ((hadD (32 * b.val + i.val) k.val * X r.val (32 * b0 + k.val) : ℝ) : EReal) := by
    rw [hh, ht, ← EReal.coe_mul]
  refine (congrArg _ (Finset.sum_congr rfl fun k _ => hk k)).trans ?_
  rw [coe_sum]
  rw [hadD_sum n (X r.val) b0 b.val i.val hb hi]
  show cst 0x00000000#32 + _ = _
  rw [cst_zero, ← EReal.coe_add, zero_add]

theorem tSum_eq (b : Fin n) (r : Fin 256) : tSum tf h t (ix2 b r) = ((sR (X r.val) (b0 + b.val) : ℝ) : EReal) := by
  refine (Ideal.reduceAdd_r3_a1 tf.h2 (mulf (tAcc tf h t) (tAcc tf h t)) (ix2 b r)).trans ?_
  rw [sR, ← coe_sum]
  refine Finset.sum_congr rfl fun k _ => ?_
  show tAcc tf h t (ix3 b k r) * tAcc tf h t (ix3 b k r) = _
  rw [tAcc_eq tf h t X b0 hh ht, ← EReal.coe_mul]

/-- A block's code. -/
theorem tCode_eq (b : Fin n) (r : Fin 256) : (tCode tf h t (ix2 b r)).setWidth 8 = codeR (X r.val) (b0 + b.val) := by
  show (IntOp.addi (kExp (tSum tf h t (ix2 b r))) 127#32).setWidth 8 = _
  rw [tSum_eq tf h t X b0 hh ht]
  exact kCode_eq _ (sR_nonneg _ _)

omit hh ht in
theorem bcast_blk {α : Type} (v : (⟨2, ![n, 256]⟩ : Shape).Idx → α) (b : Fin n) (i : Fin 32) (r : Fin 256) :
    broadcastTo ⟨3, ![n, 32, 256]⟩ (shapeCast ⟨3, ![n, 1, 256]⟩ v tf.h3) tf.h4 (ix3 b i r) = v (ix2 b r) := by
  rw [broadcastTo_apply _ tf.h4 (ix3 b i r) (ix3 b (0 : Fin 1) r) (fun a => by
    match a with
    | ⟨0, _⟩ =>
      show b.val = if n = 1 then 0 else b.val
      have := b.isLt
      split <;> omega
    | ⟨1, _⟩ => rfl
    | ⟨2, _⟩ => rfl)]
  exact shapeCast_apply _ tf.h3 _ (ix2 b r) (by
    rw [Shape.rowMajor_val_two, Shape.rowMajor_val_three]
    show b.val * 256 + r.val = (b.val * 1 + 0) * 256 + r.val
    ring)

omit hh ht in
theorem cast_rows {α : Type} (v : (⟨3, ![n, 32, 256]⟩ : Shape).Idx → α) (b : Fin n) (i : Fin 32) (r : Fin 256) (hk : 32 * b.val + i.val < 32 * n) :
    shapeCast ⟨2, ![32 * n, 256]⟩ v tf.h5 (ix2 ⟨32 * b.val + i.val, hk⟩ r) = v (ix3 b i r) :=
  shapeCast_apply _ tf.h5 _ (ix3 b i r) (by
    rw [Shape.rowMajor_val_two, Shape.rowMajor_val_three]
    show (b.val * 32 + i.val) * 256 + r.val = (32 * b.val + i.val) * 256 + r.val
    ring)

/-- One element multiplied back. -/
theorem tDeq_eq (k : Fin (32 * n)) (r : Fin 256) : tDeq tf h t (ix2 k r) = ((deqR (X r.val) (32 * b0 + k.val) : ℝ) : EReal) := by
  obtain ⟨b, i, hbi⟩ : ∃ (b : Fin n) (i : Fin 32), k = ⟨32 * b.val + i.val, by have := b.isLt; have := i.isLt; omega⟩ :=
    ⟨⟨k.val / 32, by have := k.isLt; omega⟩, ⟨k.val % 32, by omega⟩, Fin.ext (by show k.val = 32 * (k.val / 32) + k.val % 32; omega)⟩
  have hi := i.isLt
  have hk : 32 * b.val + i.val < 32 * n := by have := b.isLt; omega
  subst hbi
  unfold tDeq
  rw [cast_rows tf]
  show (shapeCast ⟨3, ![n, 32, 256]⟩ (fun i => kVal (kNib (tX tf h t i)) : FVec Ideal ⟨2, ![32 * n, 256]⟩ .bf16) tf.h1 (ix3 b i r) : EReal) * _ = _
  rw [bcast_blk tf, shapeCast_apply _ tf.h1 (ix3 b i r) (ix2 ⟨32 * b.val + i.val, hk⟩ r) (by
    rw [Shape.rowMajor_val_two, Shape.rowMajor_val_three]
    show (32 * b.val + i.val) * 256 + r.val = (b.val * 32 + i.val) * 256 + r.val
    ring)]
  have hs := tSum_eq tf h t X b0 hh ht b r
  have hx : tX tf h t (ix2 ⟨32 * b.val + i.val, hk⟩ r)
      = ((accR (X r.val) (b0 + b.val) i.val * (invR (sR (X r.val) (b0 + b.val)) * (Real.sqrt 32)⁻¹) : ℝ) : EReal) := by
    unfold tX
    rw [cast_rows tf]
    show tAcc tf h t (ix3 b i r) * _ = _
    rw [bcast_blk tf, tAcc_eq tf h t X b0 hh ht]
    show _ * (kInv (tSum tf h t (ix2 b r)) * kap) = _
    rw [hs, kInv_coe _ (sR_nonneg _ _), kap, ← EReal.coe_mul, ← EReal.coe_mul]
  rw [hx, hs, kVal_kNib, kScale_coe _ (sR_nonneg _ _), ← EReal.coe_mul]
  congr 1
  rw [deqR, show (32 * b0 + (32 * b.val + i.val)) / 32 = b0 + b.val by omega, show (32 * b0 + (32 * b.val + i.val)) % 32 = i.val by omega]

end

end Cert.Quant
-- ==== Proof.Quant.Codes.lean ====
/- What the codes of a grid point are: the codes of the rows of its weight block. -/
module

public import proofs.«01_k».proof.Proof.Quant.Words
public import proofs.«01_k».proof.Proof.Quant.TileMath
public import Idealize.ShloMosaic.Lib.Pointwise.SelectCore

@[expose] public section

noncomputable section

namespace Cert.KernelIdeal.Gen

open Cert.KernelIdeal Idealize.ShloMosaic Idealize.ShloMosaic.TcCoe Idealize.SL.Sem
open Cert.Quant

/-- The pieces of a list, from row `o` on, are mapped by `φ` to the rows of `f`. -/
def Rows {α β : Type} (φ : α → β) (f : ℕ → ℕ → β) : List ((s : Shape) × (s.Idx → α)) → ℕ → Prop
  | [], _ => True
  | p :: xs, o => ∃ (n : ℕ) (g : (⟨2, ![n, 256]⟩ : Shape).Idx → α),
      p = ⟨⟨2, ![n, 256]⟩, g⟩ ∧ (∀ (b : Fin n) (r : Fin 256), φ (g (ix2 b r)) = f (o + b.val) r.val) ∧ Rows φ f xs (o + n)

/-- A concatenation of such pieces reads `f`. -/
theorem concatenateAt_rows {α β : Type} (φ : α → β) (f : ℕ → ℕ → β) (j : S90x256.Idx) :
    ∀ (xs : List ((s : Shape) × (s.Idx → α))) (hs : ∀ s ∈ xs.map (·.1), s.FitsOff S90x256 0) (c : ℕ)
      (hc : c < (axisSizes S90x256 0 xs).sum) (o : ℕ), Rows φ f xs o →
      φ (concatenateAt S90x256 0 j xs hs c hc) = f (o + c) (j 1).val
  | [], _, _, hc, _, _ => absurd hc (Nat.not_lt_zero _)
  | [p], hs, c, hc, o, H => by
    obtain ⟨n, g, rfl, hg, -⟩ := H
    have hcn : c < n := by
      have := hc
      rw [axisSizes_cons S90x256 0 _ [] (hs _ List.mem_cons_self)] at this
      simpa [axisSizes] using this
    rw [concatenateAt, Shape.Idx.norm_def]
    refine Eq.trans (congrArg (fun z => φ (g z)) (funext fun b => Fin.ext ?_)) (hg ⟨c, hcn⟩ ⟨(j 1).val, (j 1).isLt⟩)
    match b with
    | ⟨0, _⟩ => rfl
    | ⟨1, _⟩ => rfl
  | p :: q :: xs, hs, c, hc, o, H => by
    obtain ⟨n, g, rfl, hg, H'⟩ := H
    rw [concatenateAt]
    split
    · next hlt =>
      rw [Shape.Idx.norm_def]
      refine Eq.trans (congrArg (fun z => φ (g z)) (funext fun b => Fin.ext ?_)) (hg ⟨c, hlt⟩ ⟨(j 1).val, (j 1).isLt⟩)
      match b with
      | ⟨0, _⟩ => rfl
      | ⟨1, _⟩ => rfl
    · next hlt =>
      have hle : ¬ c < n := hlt
      rw [concatenateAt_rows φ f j (q :: xs) _ _ _ (o + n) H']
      show f (o + n + (c - n)) _ = _
      congr 1; omega

/-- The stored codes of twelve tiles, read at a row and a block. -/
theorem pay748_at (f : ℕ → ℕ → BitVec 8) (v0 v1 v2 v3 v4 v5 v6 v7 v8 v9 v10 : IVec S8x256 32) (v11 : IVec S2x256 32)
    (h0 : ∀ b r, (v0 (ix2 b r)).setWidth 8 = f (0 + b.val) r.val) (h1 : ∀ b r, (v1 (ix2 b r)).setWidth 8 = f (8 + b.val) r.val)
    (h2 : ∀ b r, (v2 (ix2 b r)).setWidth 8 = f (16 + b.val) r.val) (h3 : ∀ b r, (v3 (ix2 b r)).setWidth 8 = f (24 + b.val) r.val)
    (h4 : ∀ b r, (v4 (ix2 b r)).setWidth 8 = f (32 + b.val) r.val) (h5 : ∀ b r, (v5 (ix2 b r)).setWidth 8 = f (40 + b.val) r.val)
    (h6 : ∀ b r, (v6 (ix2 b r)).setWidth 8 = f (48 + b.val) r.val) (h7 : ∀ b r, (v7 (ix2 b r)).setWidth 8 = f (56 + b.val) r.val)
    (h8 : ∀ b r, (v8 (ix2 b r)).setWidth 8 = f (64 + b.val) r.val) (h9 : ∀ b r, (v9 (ix2 b r)).setWidth 8 = f (72 + b.val) r.val)
    (h10 : ∀ b r, (v10 (ix2 b r)).setWidth 8 = f (80 + b.val) r.val)
    (h11 : ∀ b r, ((addi v11 (broadcast S2x256 127#32) : IVec S2x256 32) (ix2 b r)).setWidth 8 = f (88 + b.val) r.val)
    (r : Fin 256) (b : Fin 90) :
    k0_pay748 v0 v1 v2 v3 v4 v5 v6 v7 v8 v9 v10 v11 (ix2 r b) = f b.val r.val := by
  unfold k0_pay748
  refine (congrArg (BitVec.setWidth 8) (transpose_apply [1, 0] _ transposes_S90x256_p1_0_S256x90 (ix2 r b) (ix2 b r) (fun a => by
    match a with
    | ⟨0, _⟩ => rfl
    | ⟨1, _⟩ => rfl))).trans ?_
  rw [concatenate_apply]
  refine (concatenateAt_rows (BitVec.setWidth 8) f (ix2 b r) _ _ _ _ 0 ?_).trans (by rw [Nat.zero_add]; rfl)
  exact ⟨8, _, rfl, h0, 8, _, rfl, h1, 8, _, rfl, h2, 8, _, rfl, h3, 8, _, rfl, h4, 8, _, rfl, h5, 8, _, rfl, h6,
    8, _, rfl, h7, 8, _, rfl, h8, 8, _, rfl, h9, 8, _, rfl, h10, 2, _, rfl, h11, trivial⟩

variable (c : Dev nD) (arg1 : Memref sig .tc .vmem S256x256 .bf16) (harg1 : arg1.IsWhole)
  (arg3 : Memref sig .tc .vmem S256x2880 .bf16) (harg3 : arg3.IsWhole)
  (x0 : Vec Ideal S256x256 .bf16) (x2 : Vec Ideal S256x2880 .bf16)

/-- The loaded rotation is the whole of it. -/
theorem hT_at (a k : Fin 256) : hT arg1 harg1 x0 (ix2 a k) = x0 (ix2 a k) := by
  unfold hT
  refine (congrFun (shapeCast_self _ _) _).trans ?_
  show View.read (Elt Ideal) arg1.view (harg1.unread x0) _ = _
  rw [harg1.read_unread]
  refine congrArg x0 (funext fun b => Fin.ext ?_)
  match b with
  | ⟨0, _⟩ => show 0 + 1 * a.val = a.val; omega
  | ⟨1, _⟩ => show 0 + 1 * k.val = k.val; omega

/-- The corner of the loaded rotation. -/
theorem hS_at (a k : Fin 64) : hS arg1 harg1 x0 (ix2 a k) = x0 (ix2 ⟨a.val, by omega⟩ ⟨k.val, by omega⟩) := by
  unfold hS
  refine (extractStridedSlice_apply _ _ _ _ (ix2 ⟨a.val, by omega⟩ ⟨k.val, by omega⟩) (fun b => ?_)).trans (hT_at arg1 harg1 x0 _ _)
  match b with
  | ⟨0, _⟩ => show a.val = 0 + a.val; omega
  | ⟨1, _⟩ => show k.val = 0 + k.val; omega

/-- A loaded tile of a block. -/
theorem bT_at (o : ℕ) (inb : ∀ a, (![0, o] : Fin 2 → ℕ) a + S256x256.size a ≤ S256x2880.size a) (r k : Fin 256) (h : o + k.val < 2880) :
    bT arg3 harg3 x2 o inb (ix2 r k) = x2 (ix2 r ⟨o + k.val, h⟩) := by
  unfold bT
  show View.read (Elt Ideal) arg3.view (harg3.unread x2) _ = _
  rw [harg3.read_unread]
  refine congrArg x2 (funext fun b => Fin.ext ?_)
  match b with
  | ⟨0, _⟩ => show 0 + 1 * r.val = r.val; omega
  | ⟨1, _⟩ => show o + 1 * k.val = o + k.val; omega

/-- The last loaded tile of a block. -/
theorem bS_at (r : Fin 256) (k : Fin 64) : bS arg3 harg3 x2 (ix2 r k) = x2 (ix2 r ⟨2816 + k.val, by omega⟩) := by
  unfold bS
  show View.read (Elt Ideal) arg3.view (harg3.unread x2) _ = _
  rw [harg3.read_unread]
  refine congrArg x2 (funext fun b => Fin.ext ?_)
  match b with
  | ⟨0, _⟩ => show 0 + 1 * r.val = r.val; omega
  | ⟨1, _⟩ => show 2816 + 1 * k.val = 2816 + k.val; omega

variable (X : ℕ → ℕ → ℝ) (h0 : ∀ a k : Fin 256, x0 (ix2 a k) = ((hadD a.val k.val : ℝ) : EReal))
  (h2 : ∀ (r : Fin 256) (k : Fin 2880), x2 (ix2 r k) = ((X r.val k.val : ℝ) : EReal))
include h0 h2

/-- The codes of a tile of 256 columns of a block of reals. -/
theorem code8 (b0 : ℕ) (inb : ∀ a, (![0, 32 * b0] : Fin 2 → ℕ) a + S256x256.size a ≤ S256x2880.size a) (b : Fin 8) (r : Fin 256) :
    (tCode tf8 (hT arg1 harg1 x0) (bT arg3 harg3 x2 (32 * b0) inb) (ix2 b r)).setWidth 8 = codeR (X r.val) (b0 + b.val) :=
  tCode_eq (n := 8) tf8 _ _ X b0 (fun a k => (hT_at arg1 harg1 x0 a k).trans (h0 a k))
    (fun r k => (bT_at arg3 harg3 x2 _ inb r k (by have := inb 1; have h := k.isLt; simp at this h; omega)).trans (h2 r _)) b r

/-- The products of a tile of 256 columns of a block of reals. -/
theorem deq8 (b0 : ℕ) (inb : ∀ a, (![0, 32 * b0] : Fin 2 → ℕ) a + S256x256.size a ≤ S256x2880.size a) (k r : Fin 256) :
    tDeq tf8 (hT arg1 harg1 x0) (bT arg3 harg3 x2 (32 * b0) inb) (ix2 k r) = ((deqR (X r.val) (32 * b0 + k.val) : ℝ) : EReal) :=
  tDeq_eq (n := 8) tf8 _ _ X b0 (fun a k => (hT_at arg1 harg1 x0 a k).trans (h0 a k))
    (fun r k => (bT_at arg3 harg3 x2 _ inb r k (by have := inb 1; have h := k.isLt; simp at this h; omega)).trans (h2 r _)) k r

/-- The codes of the last tile. -/
theorem code2 (b : Fin 2) (r : Fin 256) :
    (tCode tf2 (hS arg1 harg1 x0) (bS arg3 harg3 x2) (ix2 b r)).setWidth 8 = codeR (X r.val) (88 + b.val) :=
  tCode_eq (n := 2) tf2 _ _ X 88 (fun a k => (hS_at arg1 harg1 x0 a k).trans (h0 _ _))
    (fun r k => (bS_at arg3 harg3 x2 r k).trans (h2 r _)) b r

/-- The products of the last tile. -/
theorem deq2 (k : Fin 64) (r : Fin 256) :
    tDeq tf2 (hS arg1 harg1 x0) (bS arg3 harg3 x2) (ix2 k r) = ((deqR (X r.val) (2816 + k.val) : ℝ) : EReal) :=
  tDeq_eq (n := 2) tf2 _ _ X 88 (fun a k => (hS_at arg1 harg1 x0 a k).trans (h0 _ _))
    (fun r k => (bS_at arg3 harg3 x2 r k).trans (h2 r _)) k r

end Cert.KernelIdeal.Gen
-- ==== Proof.Quant.WordsA.lean ====
/- What the products of the run at the first grid point are. -/
module

public import proofs.«01_k».proof.Proof.Quant.Words

@[expose] public section

noncomputable section

namespace Cert.KernelIdeal.Gen

open Cert.KernelIdeal Idealize.ShloMosaic Idealize.ShloMosaic.TcCoe Idealize.SL.Sem
open Cert.Quant

variable (c : Dev nD) (arg1 : Memref sig .tc .vmem S256x256 .bf16) (harg1 : arg1.IsWhole)
  (arg2 : Memref sig .tc .vmem S256x2880 .bf16) (harg2 : arg2.IsWhole)
  (arg3 : Memref sig .tc .vmem S256x2880 .bf16) (harg3 : arg3.IsWhole)
  (arg11 : Memref sig .tc .vmem S256x2880 .bf16) (harg11 : arg11.IsWhole)
  (x0 : Vec Ideal S256x256 .bf16) (x1 : Vec Ideal S256x2880 .bf16) (x2 xs0 : Vec Ideal S256x2880 .bf16)

/-- The product with w tile 0. -/
theorem dotA_0 : kernelRun0_A.sl.v291 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 0] S256x256.size inb_S256x2880_S256x256_0_0).toLoadRect) : FVec Ideal S256x256 .bf16)
      (tDeq tf8 (hT arg1 harg1 x0) (bT arg3 harg3 x2 0 inb_S256x2880_S256x256_0_0)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 0] S256x256.size inb_S256x2880_S256x256_0_0).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 1. -/
theorem dotA_1 : kernelRun0_A.sl.v580 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 256] S256x256.size inb_S256x2880_S256x256_0_256).toLoadRect) : FVec Ideal S256x256 .bf16)
      (tDeq tf8 (hT arg1 harg1 x0) (bT arg3 harg3 x2 256 inb_S256x2880_S256x256_0_256)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 256] S256x256.size inb_S256x2880_S256x256_0_256).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 2. -/
theorem dotA_2 : kernelRun0_A.sl.v869 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 512] S256x256.size inb_S256x2880_S256x256_0_512).toLoadRect) : FVec Ideal S256x256 .bf16)
      (tDeq tf8 (hT arg1 harg1 x0) (bT arg3 harg3 x2 512 inb_S256x2880_S256x256_0_512)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 512] S256x256.size inb_S256x2880_S256x256_0_512).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 3. -/
theorem dotA_3 : kernelRun0_A.sl.v1158 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 768] S256x256.size inb_S256x2880_S256x256_0_768).toLoadRect) : FVec Ideal S256x256 .bf16)
      (tDeq tf8 (hT arg1 harg1 x0) (bT arg3 harg3 x2 768 inb_S256x2880_S256x256_0_768)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 768] S256x256.size inb_S256x2880_S256x256_0_768).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 4. -/
theorem dotA_4 : kernelRun0_A.sl.v1447 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 1024] S256x256.size inb_S256x2880_S256x256_0_1024).toLoadRect) : FVec Ideal S256x256 .bf16)
      (tDeq tf8 (hT arg1 harg1 x0) (bT arg3 harg3 x2 1024 inb_S256x2880_S256x256_0_1024)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 1024] S256x256.size inb_S256x2880_S256x256_0_1024).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 5. -/
theorem dotA_5 : kernelRun0_A.sl.v1736 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 1280] S256x256.size inb_S256x2880_S256x256_0_1280).toLoadRect) : FVec Ideal S256x256 .bf16)
      (tDeq tf8 (hT arg1 harg1 x0) (bT arg3 harg3 x2 1280 inb_S256x2880_S256x256_0_1280)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 1280] S256x256.size inb_S256x2880_S256x256_0_1280).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 6. -/
theorem dotA_6 : kernelRun0_A.sl.v2025 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 1536] S256x256.size inb_S256x2880_S256x256_0_1536).toLoadRect) : FVec Ideal S256x256 .bf16)
      (tDeq tf8 (hT arg1 harg1 x0) (bT arg3 harg3 x2 1536 inb_S256x2880_S256x256_0_1536)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 1536] S256x256.size inb_S256x2880_S256x256_0_1536).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 7. -/
theorem dotA_7 : kernelRun0_A.sl.v2314 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 1792] S256x256.size inb_S256x2880_S256x256_0_1792).toLoadRect) : FVec Ideal S256x256 .bf16)
      (tDeq tf8 (hT arg1 harg1 x0) (bT arg3 harg3 x2 1792 inb_S256x2880_S256x256_0_1792)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 1792] S256x256.size inb_S256x2880_S256x256_0_1792).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 8. -/
theorem dotA_8 : kernelRun0_A.sl.v2603 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 2048] S256x256.size inb_S256x2880_S256x256_0_2048).toLoadRect) : FVec Ideal S256x256 .bf16)
      (tDeq tf8 (hT arg1 harg1 x0) (bT arg3 harg3 x2 2048 inb_S256x2880_S256x256_0_2048)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 2048] S256x256.size inb_S256x2880_S256x256_0_2048).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 9. -/
theorem dotA_9 : kernelRun0_A.sl.v2892 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 2304] S256x256.size inb_S256x2880_S256x256_0_2304).toLoadRect) : FVec Ideal S256x256 .bf16)
      (tDeq tf8 (hT arg1 harg1 x0) (bT arg3 harg3 x2 2304 inb_S256x2880_S256x256_0_2304)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 2304] S256x256.size inb_S256x2880_S256x256_0_2304).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 10. -/
theorem dotA_10 : kernelRun0_A.sl.v3181 (F := Ideal) c arg1 harg1 arg2 harg2 arg3 harg3 arg11 x0 x1 x2 =
    matmul (F := Ideal) (φ₁ := .bf16) (φ₂ := .bf16) (DotDims.plain 256 256 256) none
      ((arg11.view.readCov (kernelRun0_A.sl.HS0_12 (F := Ideal) c arg1 harg1 arg2 harg2 x0 x1) (Rect.unit (s := S256x2880) ![0, 2560] S256x256.size inb_S256x2880_S256x256_0_2560).toLoadRect) : FVec Ideal S256x256 .bf16)
      (tDeq tf8 (hT arg1 harg1 x0) (bT arg3 harg3 x2 2560 inb_S256x2880_S256x256_0_2560)) (constant S256x256 .f32 0x00000000#32) := by
  refine congrArg (fun d => matmul (F := Ideal) (φ₁ := .bf16) (φ₂ := .bf16) (DotDims.plain 256 256 256) none (arg11.view.readCov (kernelRun0_A.sl.HS0_12 (F := Ideal) c arg1 harg1 arg2 harg2 x0 x1) (Rect.unit (s := S256x2880) ![0, 2560] S256x256.size inb_S256x2880_S256x256_0_2560).toLoadRect) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 11. -/
theorem dotA_11 : kernelRun0_A.sl.r_157 (F := Ideal) c arg1 harg1 arg2 harg2 arg3 harg3 arg11 x0 x1 x2 =
    matmul (F := Ideal) (φ₁ := .bf16) (φ₂ := .bf16) (DotDims.plain 256 64 256) none
      ((arg11.view.readCov (kernelRun0_A.sl.HS0_12 (F := Ideal) c arg1 harg1 arg2 harg2 x0 x1) (Rect.unit (s := S256x2880) ![0, 2816] S256x64.size inb_S256x2880_S256x64_0_2816).toLoadRect) : FVec Ideal S256x64 .bf16)
      (tDeq tf2 (hS arg1 harg1 x0) (bS arg3 harg3 x2)) (constant S256x256 .f32 0x00000000#32) := by
  refine congrArg (fun d => matmul (F := Ideal) (φ₁ := .bf16) (φ₂ := .bf16) (DotDims.plain 256 64 256) none (arg11.view.readCov (kernelRun0_A.sl.HS0_12 (F := Ideal) c arg1 harg1 arg2 harg2 x0 x1) (Rect.unit (s := S256x2880) ![0, 2816] S256x64.size inb_S256x2880_S256x64_0_2816).toLoadRect) d (constant S256x256 .f32 0x00000000#32)) ?_
  sl_unfold_words
  unfold tDeq
  refine congrArg (fun v => shapeCast S64x256 v tf2.h5) ?_
  refine congrArg₂ (mulf (φ := .bf16)) ?_ ?_
  · refine congrArg (fun v => shapeCast S2x32x256 v tf2.h1) ?_
    funext i
    rfl
  · refine congrArg (fun v => broadcastTo S2x32x256 (shapeCast S2x1x256 v tf2.h3) tf2.h4) ?_
    funext i
    rfl

end Cert.KernelIdeal.Gen
-- ==== Proof.Quant.WordsB.lean ====
/- What the products of the run at a later grid point are. -/
module

public import proofs.«01_k».proof.Proof.Quant.Words

@[expose] public section

noncomputable section

namespace Cert.KernelIdeal.Gen

open Cert.KernelIdeal Idealize.ShloMosaic Idealize.ShloMosaic.TcCoe Idealize.SL.Sem
open Cert.Quant

variable (c : Dev nD) (arg1 : Memref sig .tc .vmem S256x256 .bf16) (harg1 : arg1.IsWhole)
  (arg2 : Memref sig .tc .vmem S256x2880 .bf16) (harg2 : arg2.IsWhole)
  (arg3 : Memref sig .tc .vmem S256x2880 .bf16) (harg3 : arg3.IsWhole)
  (arg11 : Memref sig .tc .vmem S256x2880 .bf16) (harg11 : arg11.IsWhole)
  (x0 : Vec Ideal S256x256 .bf16) (x1 : Vec Ideal S256x2880 .bf16) (x2 xs0 : Vec Ideal S256x2880 .bf16)

/-- The product with w tile 0. -/
theorem dotB_0 : kernelRun0_B.sl.v291 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 0] S256x256.size inb_S256x2880_S256x256_0_0).toLoadRect (harg11.unread xs0)) : FVec Ideal S256x256 .bf16)
      (tDeq tf8 (hT arg1 harg1 x0) (bT arg3 harg3 x2 0 inb_S256x2880_S256x256_0_0)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 0] S256x256.size inb_S256x2880_S256x256_0_0).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 1. -/
theorem dotB_1 : kernelRun0_B.sl.v580 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 256] S256x256.size inb_S256x2880_S256x256_0_256).toLoadRect (harg11.unread xs0)) : FVec Ideal S256x256 .bf16)
      (tDeq tf8 (hT arg1 harg1 x0) (bT arg3 harg3 x2 256 inb_S256x2880_S256x256_0_256)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 256] S256x256.size inb_S256x2880_S256x256_0_256).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 2. -/
theorem dotB_2 : kernelRun0_B.sl.v869 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 512] S256x256.size inb_S256x2880_S256x256_0_512).toLoadRect (harg11.unread xs0)) : FVec Ideal S256x256 .bf16)
      (tDeq tf8 (hT arg1 harg1 x0) (bT arg3 harg3 x2 512 inb_S256x2880_S256x256_0_512)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 512] S256x256.size inb_S256x2880_S256x256_0_512).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 3. -/
theorem dotB_3 : kernelRun0_B.sl.v1158 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 768] S256x256.size inb_S256x2880_S256x256_0_768).toLoadRect (harg11.unread xs0)) : FVec Ideal S256x256 .bf16)
      (tDeq tf8 (hT arg1 harg1 x0) (bT arg3 harg3 x2 768 inb_S256x2880_S256x256_0_768)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 768] S256x256.size inb_S256x2880_S256x256_0_768).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 4. -/
theorem dotB_4 : kernelRun0_B.sl.v1447 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 1024] S256x256.size inb_S256x2880_S256x256_0_1024).toLoadRect (harg11.unread xs0)) : FVec Ideal S256x256 .bf16)
      (tDeq tf8 (hT arg1 harg1 x0) (bT arg3 harg3 x2 1024 inb_S256x2880_S256x256_0_1024)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 1024] S256x256.size inb_S256x2880_S256x256_0_1024).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 5. -/
theorem dotB_5 : kernelRun0_B.sl.v1736 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 1280] S256x256.size inb_S256x2880_S256x256_0_1280).toLoadRect (harg11.unread xs0)) : FVec Ideal S256x256 .bf16)
      (tDeq tf8 (hT arg1 harg1 x0) (bT arg3 harg3 x2 1280 inb_S256x2880_S256x256_0_1280)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 1280] S256x256.size inb_S256x2880_S256x256_0_1280).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 6. -/
theorem dotB_6 : kernelRun0_B.sl.v2025 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 1536] S256x256.size inb_S256x2880_S256x256_0_1536).toLoadRect (harg11.unread xs0)) : FVec Ideal S256x256 .bf16)
      (tDeq tf8 (hT arg1 harg1 x0) (bT arg3 harg3 x2 1536 inb_S256x2880_S256x256_0_1536)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 1536] S256x256.size inb_S256x2880_S256x256_0_1536).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 7. -/
theorem dotB_7 : kernelRun0_B.sl.v2314 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 1792] S256x256.size inb_S256x2880_S256x256_0_1792).toLoadRect (harg11.unread xs0)) : FVec Ideal S256x256 .bf16)
      (tDeq tf8 (hT arg1 harg1 x0) (bT arg3 harg3 x2 1792 inb_S256x2880_S256x256_0_1792)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 1792] S256x256.size inb_S256x2880_S256x256_0_1792).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 8. -/
theorem dotB_8 : kernelRun0_B.sl.v2603 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 2048] S256x256.size inb_S256x2880_S256x256_0_2048).toLoadRect (harg11.unread xs0)) : FVec Ideal S256x256 .bf16)
      (tDeq tf8 (hT arg1 harg1 x0) (bT arg3 harg3 x2 2048 inb_S256x2880_S256x256_0_2048)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 2048] S256x256.size inb_S256x2880_S256x256_0_2048).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 9. -/
theorem dotB_9 : kernelRun0_B.sl.v2892 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 2304] S256x256.size inb_S256x2880_S256x256_0_2304).toLoadRect (harg11.unread xs0)) : FVec Ideal S256x256 .bf16)
      (tDeq tf8 (hT arg1 harg1 x0) (bT arg3 harg3 x2 2304 inb_S256x2880_S256x256_0_2304)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 2304] S256x256.size inb_S256x2880_S256x256_0_2304).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 10. -/
theorem dotB_10 : kernelRun0_B.sl.v3181 (F := Ideal) c arg1 harg1 arg3 harg3 arg11 harg11 x0 x2 xs0 =
    matmul (F := Ideal) (φ₁ := .bf16) (φ₂ := .bf16) (DotDims.plain 256 256 256) none
      ((View.readAt (Elt Ideal) arg11.view (Rect.unit (s := S256x2880) ![0, 2560] S256x256.size inb_S256x2880_S256x256_0_2560).toLoadRect (harg11.unread xs0)) : FVec Ideal S256x256 .bf16)
      (tDeq tf8 (hT arg1 harg1 x0) (bT arg3 harg3 x2 2560 inb_S256x2880_S256x256_0_2560)) (constant S256x256 .f32 0x00000000#32) := by
  refine congrArg (fun d => matmul (F := Ideal) (φ₁ := .bf16) (φ₂ := .bf16) (DotDims.plain 256 256 256) none (View.readAt (Elt Ideal) arg11.view (Rect.unit (s := S256x2880) ![0, 2560] S256x256.size inb_S256x2880_S256x256_0_2560).toLoadRect (harg11.unread xs0)) d (constant S256x256 .f32 0x00000000#32)) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The product with w tile 11. -/
theorem dotB_11 : kernelRun0_B.sl.r_77 (F := Ideal) c arg1 harg1 arg3 harg3 arg11 harg11 x0 x2 xs0 =
    matmul (F := Ideal) (φ₁ := .bf16) (φ₂ := .bf16) (DotDims.plain 256 64 256) none
      ((View.readAt (Elt Ideal) arg11.view (Rect.unit (s := S256x2880) ![0, 2816] S256x64.size inb_S256x2880_S256x64_0_2816).toLoadRect (harg11.unread xs0)) : FVec Ideal S256x64 .bf16)
      (tDeq tf2 (hS arg1 harg1 x0) (bS arg3 harg3 x2)) (constant S256x256 .f32 0x00000000#32) := by
  refine congrArg (fun d => matmul (F := Ideal) (φ₁ := .bf16) (φ₂ := .bf16) (DotDims.plain 256 64 256) none (View.readAt (Elt Ideal) arg11.view (Rect.unit (s := S256x2880) ![0, 2816] S256x64.size inb_S256x2880_S256x64_0_2816).toLoadRect (harg11.unread xs0)) d (constant S256x256 .f32 0x00000000#32)) ?_
  sl_unfold_words
  unfold tDeq
  refine congrArg (fun v => shapeCast S64x256 v tf2.h5) ?_
  refine congrArg₂ (mulf (φ := .bf16)) ?_ ?_
  · refine congrArg (fun v => shapeCast S2x32x256 v tf2.h1) ?_
    funext i
    rfl
  · refine congrArg (fun v => broadcastTo S2x32x256 (shapeCast S2x1x256 v tf2.h3) tf2.h4) ?_
    funext i
    rfl

end Cert.KernelIdeal.Gen
-- ==== Proof.Quant.WordsX.lean ====
/- What the stored x tiles are. -/
module

public import proofs.«01_k».proof.Proof.Quant.Words

@[expose] public section

noncomputable section

namespace Cert.KernelIdeal.Gen

open Cert.KernelIdeal Idealize.ShloMosaic Idealize.ShloMosaic.TcCoe Idealize.SL.Sem
open Cert.Quant

variable (c : Dev nD) (arg1 : Memref sig .tc .vmem S256x256 .bf16) (harg1 : arg1.IsWhole)
  (arg2 : Memref sig .tc .vmem S256x2880 .bf16) (harg2 : arg2.IsWhole)
  (arg3 : Memref sig .tc .vmem S256x2880 .bf16) (harg3 : arg3.IsWhole)
  (arg11 : Memref sig .tc .vmem S256x2880 .bf16) (harg11 : arg11.IsWhole)
  (x0 : Vec Ideal S256x256 .bf16) (x1 : Vec Ideal S256x2880 .bf16) (x2 xs0 : Vec Ideal S256x2880 .bf16)

/-- Stored x tile 0. -/
theorem xt_0 : kernelRun0_A.sl.v3784 (F := Ideal) c arg1 harg1 arg2 harg2 x0 x1 =
    shapeCast S256x256 (transpose S256x256 [1, 0] (tDeq tf8 (hT arg1 harg1 x0) (shapeCast S256x256 (bT arg2 harg2 x1 0 inb_S256x2880_S256x256_0_0) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 1. -/
theorem xt_1 : kernelRun0_A.sl.v4076 (F := Ideal) c arg1 harg1 arg2 harg2 x0 x1 =
    shapeCast S256x256 (transpose S256x256 [1, 0] (tDeq tf8 (hT arg1 harg1 x0) (shapeCast S256x256 (bT arg2 harg2 x1 256 inb_S256x2880_S256x256_0_256) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 2. -/
theorem xt_2 : kernelRun0_A.sl.v4368 (F := Ideal) c arg1 harg1 arg2 harg2 x0 x1 =
    shapeCast S256x256 (transpose S256x256 [1, 0] (tDeq tf8 (hT arg1 harg1 x0) (shapeCast S256x256 (bT arg2 harg2 x1 512 inb_S256x2880_S256x256_0_512) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 3. -/
theorem xt_3 : kernelRun0_A.sl.v4660 (F := Ideal) c arg1 harg1 arg2 harg2 x0 x1 =
    shapeCast S256x256 (transpose S256x256 [1, 0] (tDeq tf8 (hT arg1 harg1 x0) (shapeCast S256x256 (bT arg2 harg2 x1 768 inb_S256x2880_S256x256_0_768) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 4. -/
theorem xt_4 : kernelRun0_A.sl.v4952 (F := Ideal) c arg1 harg1 arg2 harg2 x0 x1 =
    shapeCast S256x256 (transpose S256x256 [1, 0] (tDeq tf8 (hT arg1 harg1 x0) (shapeCast S256x256 (bT arg2 harg2 x1 1024 inb_S256x2880_S256x256_0_1024) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 5. -/
theorem xt_5 : kernelRun0_A.sl.v5244 (F := Ideal) c arg1 harg1 arg2 harg2 x0 x1 =
    shapeCast S256x256 (transpose S256x256 [1, 0] (tDeq tf8 (hT arg1 harg1 x0) (shapeCast S256x256 (bT arg2 harg2 x1 1280 inb_S256x2880_S256x256_0_1280) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 6. -/
theorem xt_6 : kernelRun0_A.sl.v5536 (F := Ideal) c arg1 harg1 arg2 harg2 x0 x1 =
    shapeCast S256x256 (transpose S256x256 [1, 0] (tDeq tf8 (hT arg1 harg1 x0) (shapeCast S256x256 (bT arg2 harg2 x1 1536 inb_S256x2880_S256x256_0_1536) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 7. -/
theorem xt_7 : kernelRun0_A.sl.v5828 (F := Ideal) c arg1 harg1 arg2 harg2 x0 x1 =
    shapeCast S256x256 (transpose S256x256 [1, 0] (tDeq tf8 (hT arg1 harg1 x0) (shapeCast S256x256 (bT arg2 harg2 x1 1792 inb_S256x2880_S256x256_0_1792) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 8. -/
theorem xt_8 : kernelRun0_A.sl.v6120 (F := Ideal) c arg1 harg1 arg2 harg2 x0 x1 =
    shapeCast S256x256 (transpose S256x256 [1, 0] (tDeq tf8 (hT arg1 harg1 x0) (shapeCast S256x256 (bT arg2 harg2 x1 2048 inb_S256x2880_S256x256_0_2048) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 9. -/
theorem xt_9 : kernelRun0_A.sl.v6412 (F := Ideal) c arg1 harg1 arg2 harg2 x0 x1 =
    shapeCast S256x256 (transpose S256x256 [1, 0] (tDeq tf8 (hT arg1 harg1 x0) (shapeCast S256x256 (bT arg2 harg2 x1 2304 inb_S256x2880_S256x256_0_2304) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- Stored x tile 10. -/
theorem xt_10 : kernelRun0_A.sl.v6704 (F := Ideal) c arg1 harg1 arg2 harg2 x0 x1 =
    shapeCast S256x256 (transpose S256x256 [1, 0] (tDeq tf8 (hT arg1 harg1 x0) (shapeCast S256x256 (bT arg2 harg2 x1 2560 inb_S256x2880_S256x256_0_2560) shapeCasts_S256x256_S256x256))
      transposes_S256x256_p1_0_S256x256) shapeCasts_S256x256_S256x256 := by
  refine congrArg (fun d => shapeCast S256x256 (transpose S256x256 [1, 0] d transposes_S256x256_p1_0_S256x256) shapeCasts_S256x256_S256x256) ?_
  sl_unfold_words
  unfold tDeq
  refine congrArg (fun v => shapeCast S256x256 v tf8.h5) ?_
  refine congrArg₂ (mulf (φ := .bf16)) ?_ ?_
  · refine congrArg (fun v => shapeCast S8x32x256 v tf8.h1) ?_
    funext i
    rfl
  · refine congrArg (fun v => broadcastTo S8x32x256 (shapeCast S8x1x256 v tf8.h3) tf8.h4) ?_
    funext i
    rfl

/-- The last stored x tile. -/
theorem xt_11 : kernelRun0_A.sl.v6997 (F := Ideal) c arg1 harg1 arg2 harg2 x0 x1 =
    shapeCast S256x64 (transpose S256x64 [1, 0] (tDeq tf2 (hS arg1 harg1 x0)
      (shapeCast S256x64 (bS arg2 harg2 x1) shapeCasts_S256x64_S256x64))
      transposes_S64x256_p1_0_S256x64) shapeCasts_S256x64_S256x64 := by
  refine congrArg (fun d => shapeCast S256x64 (transpose S256x64 [1, 0] d transposes_S64x256_p1_0_S256x64) shapeCasts_S256x64_S256x64) ?_
  sl_unfold_words
  unfold tDeq
  refine congrArg (fun v => shapeCast S64x256 v tf2.h5) ?_
  refine congrArg₂ (mulf (φ := .bf16)) ?_ ?_
  · refine congrArg (fun v => shapeCast S2x32x256 v tf2.h1) ?_
    funext i
    rfl
  · refine congrArg (fun v => broadcastTo S2x32x256 (shapeCast S2x1x256 v tf2.h3) tf2.h4) ?_
    funext i
    rfl

end Cert.KernelIdeal.Gen
-- ==== Proof.Quant.Stored.lean ====
/- What a grid point stores: the codes of the rows of its weight block, the stored x rows and their products with the weight rows. -/
module

public import proofs.«01_k».proof.Proof.Quant.Codes
public import proofs.«01_k».proof.Proof.Quant.WordsA
public import proofs.«01_k».proof.Proof.Quant.WordsB
public import proofs.«01_k».proof.Proof.Quant.WordsX

@[expose] public section

noncomputable section

namespace Cert.KernelIdeal.Gen

open Cert.KernelIdeal Idealize.ShloMosaic Idealize.ShloMosaic.TcCoe Idealize.SL.Sem
open Cert.Quant

/-- The product of two tiles of reals. -/
theorem dot_at {K : ℕ} (lhs : FVec Ideal ⟨2, ![256, K]⟩ .bf16) (rhs : FVec Ideal ⟨2, ![K, 256]⟩ .bf16) (f g : ℕ → ℝ) (r c : Fin 256)
    (hl : ∀ k : Fin K, lhs (ix2 r k) = ((f k.val : ℝ) : EReal)) (hr : ∀ k : Fin K, rhs (ix2 k c) = ((g k.val : ℝ) : EReal)) :
    matmul (F := Ideal) (φ₁ := .bf16) (φ₂ := .bf16) (DotDims.plain 256 K 256) none lhs rhs (constant S256x256 .f32 0x00000000#32) (ix2 r c)
      = ((∑ k ∈ Finset.range K, f k * g k : ℝ) : EReal) := by
  refine (Ideal.matmul_plain_apply none lhs rhs _ r c).trans ?_
  have hk : ∀ k : Fin K, lhs (ix2 r k) * rhs (ix2 k c) = ((f k.val * g k.val : ℝ) : EReal) := fun k => by
    rw [hl, hr, EReal.coe_mul]
  refine (congrArg _ (Finset.sum_congr rfl fun k _ => hk k)).trans ?_
  rw [coe_sum, Fin.sum_univ_eq_sum_range (fun k => f k * g k) K]
  show Ideal.ofBits .f32 0x00000000#32 + _ = _
  rw [show Ideal.ofBits .f32 0x00000000#32 = (0 : EReal) by simp [Ideal.ofBits, Ideal.ieee], zero_add]

/-- A sum over 2880 columns, tile by tile. -/
theorem sum_tiles (f : ℕ → ℝ) :
    ∑ k ∈ Finset.range 2880, f k = ∑ k ∈ Finset.range 256, f k + ∑ k ∈ Finset.range 256, f (256 + k) + ∑ k ∈ Finset.range 256, f (512 + k) + ∑ k ∈ Finset.range 256, f (768 + k) + ∑ k ∈ Finset.range 256, f (1024 + k) + ∑ k ∈ Finset.range 256, f (1280 + k) + ∑ k ∈ Finset.range 256, f (1536 + k) + ∑ k ∈ Finset.range 256, f (1792 + k) + ∑ k ∈ Finset.range 256, f (2048 + k) + ∑ k ∈ Finset.range 256, f (2304 + k) + ∑ k ∈ Finset.range 256, f (2560 + k) + ∑ k ∈ Finset.range 64, f (2816 + k) := by
  have h : ∀ n m, ∑ k ∈ Finset.range (n + m), f k = ∑ k ∈ Finset.range n, f k + ∑ k ∈ Finset.range m, f (n + k) :=
    fun n m => Finset.sum_range_add f n m
  rw [show (2880 : ℕ) = 2816 + 64 from rfl, h, show (2816 : ℕ) = 2560 + 256 from rfl, h, show (2560 : ℕ) = 2304 + 256 from rfl, h,
    show (2304 : ℕ) = 2048 + 256 from rfl, h, show (2048 : ℕ) = 1792 + 256 from rfl, h, show (1792 : ℕ) = 1536 + 256 from rfl, h,
    show (1536 : ℕ) = 1280 + 256 from rfl, h, show (1280 : ℕ) = 1024 + 256 from rfl, h, show (1024 : ℕ) = 768 + 256 from rfl, h,
    show (768 : ℕ) = 512 + 256 from rfl, h, show (512 : ℕ) = 256 + 256 from rfl, h]

/-- The value stored in the last tile's turn: the sum of twelve tiles. -/
theorem pay1_at (v0 v1 v2 v3 v4 v5 v6 v7 v8 v9 v10 v11 : FVec Ideal S256x256 .f32) (f : ℕ → ℝ) (i : S256x256.Idx)
    (h0 : v0 i = ((∑ k ∈ Finset.range 256, f k : ℝ) : EReal))
    (h1 : v1 i = ((∑ k ∈ Finset.range 256, f (256 + k) : ℝ) : EReal))
    (h2 : v2 i = ((∑ k ∈ Finset.range 256, f (512 + k) : ℝ) : EReal))
    (h3 : v3 i = ((∑ k ∈ Finset.range 256, f (768 + k) : ℝ) : EReal))
    (h4 : v4 i = ((∑ k ∈ Finset.range 256, f (1024 + k) : ℝ) : EReal))
    (h5 : v5 i = ((∑ k ∈ Finset.range 256, f (1280 + k) : ℝ) : EReal))
    (h6 : v6 i = ((∑ k ∈ Finset.range 256, f (1536 + k) : ℝ) : EReal))
    (h7 : v7 i = ((∑ k ∈ Finset.range 256, f (1792 + k) : ℝ) : EReal))
    (h8 : v8 i = ((∑ k ∈ Finset.range 256, f (2048 + k) : ℝ) : EReal))
    (h9 : v9 i = ((∑ k ∈ Finset.range 256, f (2304 + k) : ℝ) : EReal))
    (h10 : v10 i = ((∑ k ∈ Finset.range 256, f (2560 + k) : ℝ) : EReal))
    (h11 : v11 i = ((∑ k ∈ Finset.range 64, f (2816 + k) : ℝ) : EReal))
    : k0_pay1 (F := Ideal) v6 v7 v8 v9 v10 v11 (k0_pay749 v0 v1 v2 v3 v4 v5) i = ((∑ k ∈ Finset.range 2880, f k : ℝ) : EReal) := by
  rw [sum_tiles]
  show (((((((((((v0 i + v1 i) + v2 i) + v3 i) + v4 i) + v5 i) + v6 i) + v7 i) + v8 i) + v9 i) + v10 i) + v11 i : EReal) = _
  rw [h0, h1, h2, h3, h4, h5, h6, h7, h8, h9, h10, h11]
  simp only [EReal.coe_add]

/-- A store of 256 columns, read: where the place lies in them or in what was stored before. -/
theorem rw_cols {v : View sig .tc .vmem S256x2880 .bf16} (f : v.ty.Contents (Elt Ideal)) (L : List (View.Piece (Elt Ideal) S256x2880 .bf16))
    (G : S256x2880.Idx → EReal) (y : S256x2880.Idx) (o : ℕ)
    (inb : ∀ a, (![0, o] : Fin 2 → ℕ) a + S256x256.size a ≤ S256x2880.size a) (w : S256x256.Idx → EReal)
    (hw : ∀ (r k : Fin 256) (h : o + k.val < 2880), w (ix2 r k) = G (ix2 r ⟨o + k.val, h⟩)) (hy : (y 1).val < o + 256)
    (hL : (y 1).val < o → v.read (Elt Ideal) (v.writes (Elt Ideal) f L) y = G y) :
    v.read (Elt Ideal) (v.writes (Elt Ideal) f (⟨Rect.unit (s := S256x2880) ![0, o] S256x256.size inb, w⟩ :: L)) y = G y := by
  have hy0 : (y 0).val < 256 := (y 0).isLt
  have hy1 : (y 1).val < 2880 := (y 1).isLt
  by_cases h : (y 1).val < o
  · exact (View.read_writes_cons_miss_of_axis v f ⟨Rect.unit (s := S256x2880) ![0, o] S256x256.size inb, w⟩ L y (1 : Fin 2) o 256 rfl rfl rfl (.inl h)).trans (hL h)
  · refine (View.read_writes_cons_hit_of_coords v f (Rect.unit (s := S256x2880) ![0, o] S256x256.size inb) w L (ix2 ⟨(y 0).val, hy0⟩ ⟨(y 1).val - o, by omega⟩ : S256x256.Idx) y (fun a => ?_)).trans ?_
    · match a with
      | ⟨0, _⟩ => show (y 0).val = 0 + 1 * (y 0).val; omega
      | ⟨1, _⟩ => show (y 1).val = o + 1 * ((y 1).val - o); omega
    · rw [hw _ _ (by show o + ((y 1).val - o) < 2880; omega)]
      refine congrArg G (funext fun a => Fin.ext ?_)
      match a with
      | ⟨0, _⟩ => rfl
      | ⟨1, _⟩ => show o + ((y 1).val - o) = (y 1).val; omega

/-- A store of the last 64 columns, read. -/
theorem rw_last {v : View sig .tc .vmem S256x2880 .bf16} (f : v.ty.Contents (Elt Ideal)) (L : List (View.Piece (Elt Ideal) S256x2880 .bf16))
    (G : S256x2880.Idx → EReal) (y : S256x2880.Idx)
    (inb : ∀ a, (![0, 2816] : Fin 2 → ℕ) a + S256x64.size a ≤ S256x2880.size a) (w : S256x64.Idx → EReal)
    (hw : ∀ (r : Fin 256) (k : Fin 64), w (ix2 r k) = G (ix2 r ⟨2816 + k.val, by omega⟩))
    (hL : (y 1).val < 2816 → v.read (Elt Ideal) (v.writes (Elt Ideal) f L) y = G y) :
    v.read (Elt Ideal) (v.writes (Elt Ideal) f (⟨Rect.unit (s := S256x2880) ![0, 2816] S256x64.size inb, w⟩ :: L)) y = G y := by
  have hy0 : (y 0).val < 256 := (y 0).isLt
  have hy1 : (y 1).val < 2880 := (y 1).isLt
  by_cases h : (y 1).val < 2816
  · exact (View.read_writes_cons_miss_of_axis v f ⟨Rect.unit (s := S256x2880) ![0, 2816] S256x64.size inb, w⟩ L y (1 : Fin 2) 2816 64 rfl rfl rfl (.inl h)).trans (hL h)
  · refine (View.read_writes_cons_hit_of_coords v f (Rect.unit (s := S256x2880) ![0, 2816] S256x64.size inb) w L (ix2 ⟨(y 0).val, hy0⟩ ⟨(y 1).val - 2816, by omega⟩ : S256x64.Idx) y (fun a => ?_)).trans ?_
    · match a with
      | ⟨0, _⟩ => show (y 0).val = 0 + 1 * (y 0).val; omega
      | ⟨1, _⟩ => show (y 1).val = 2816 + 1 * ((y 1).val - 2816); omega
    · rw [hw]
      refine congrArg G (funext fun a => Fin.ext ?_)
      match a with
      | ⟨0, _⟩ => rfl
      | ⟨1, _⟩ => show 2816 + ((y 1).val - 2816) = (y 1).val; omega

variable (c : Dev nD) (i : grid0.Coords) (arg1 : Memref sig .tc .vmem S256x256 .bf16) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S256x256 .bf16) (harg4 : arg4.IsWhole) (arg5 : Memref sig .tc .vmem S256x360 .i8) (harg5 : arg5.IsWhole) (arg6 : Memref sig .tc .vmem S256x360 .i8) (harg6 : arg6.IsWhole) (arg7 : Memref sig .tc .vmem S256x1440 .i8) (harg7 : arg7.IsWhole) (arg8 : Memref sig .tc .vmem S256x90 .i8) (harg8 : arg8.IsWhole) (arg9 : Memref sig .tc .vmem S256x1440 .i8) (harg9 : arg9.IsWhole) (arg10 : Memref sig .tc .vmem S256x90 .i8) (harg10 : arg10.IsWhole) (arg11 : Memref sig .tc .vmem S256x2880 .bf16) (harg11 : arg11.IsWhole)
  (x0 : Vec Ideal S256x256 .bf16) (x1 x2 xs0 : Vec Ideal S256x2880 .bf16)
  (X W : ℕ → ℕ → ℝ) (h0 : ∀ a k : Fin 256, x0 (ix2 a k) = ((hadD a.val k.val : ℝ) : EReal))
  (h1 : ∀ (r : Fin 256) (k : Fin 2880), x1 (ix2 r k) = ((X r.val k.val : ℝ) : EReal))
  (h2 : ∀ (r : Fin 256) (k : Fin 2880), x2 (ix2 r k) = ((W r.val k.val : ℝ) : EReal))
  (hs : ∀ (r : Fin 256) (k : Fin 2880), xs0 (ix2 r k) = ((deqR (X r.val) k.val : ℝ) : EReal))

include h0 h2 in
/-- The codes that a first grid point stores. -/
theorem out0_A_9_at (hc0 : cond0_0 i) (r : Fin 256) (b : Fin 90) :
    out0_A_9 (F := Ideal) c i arg1 harg1 arg2 harg2 arg3 harg3 arg4 harg4 arg5 harg5 arg6 harg6 arg7 harg7 arg8 harg8 arg9 harg9 arg10 harg10 arg11 harg11 hc0 x0 x1 x2 (ix2 r b) = codeR (W r.val) b.val := by
  unfold out0_A_9 kernelRun0_A
  dsimp only
  refine (View.read_writes_cons_hit_of_coords VO0_9 _ _ _ _ (ix2 r b : S256x90.Idx) (ix2 r b) (fun a => ?_)).trans ?_
  · match a with
    | ⟨0, _⟩ => show r.val = 0 + 1 * r.val; omega
    | ⟨1, _⟩ => show b.val = 0 + 1 * b.val; omega
  · refine pay748_at (fun b r => codeR (W r) b) _ _ _ _ _ _ _ _ _ _ _ _ ?_ ?_ ?_ ?_ ?_ ?_ ?_ ?_ ?_ ?_ ?_ ?_ r b
    · intro b r
      exact (congrArg (BitVec.setWidth 8) (congrFun (codeA_0 c arg1 harg1 arg3 harg3 x0 x2) (ix2 b r))).trans
        (code8 arg1 harg1 arg3 harg3 x0 x2 W h0 h2 0 inb_S256x2880_S256x256_0_0 b r)
    · intro b r
      exact (congrArg (BitVec.setWidth 8) (congrFun (codeA_1 c arg1 harg1 arg3 harg3 x0 x2) (ix2 b r))).trans
        (code8 arg1 harg1 arg3 harg3 x0 x2 W h0 h2 8 inb_S256x2880_S256x256_0_256 b r)
    · intro b r
      exact (congrArg (BitVec.setWidth 8) (congrFun (codeA_2 c arg1 harg1 arg3 harg3 x0 x2) (ix2 b r))).trans
        (code8 arg1 harg1 arg3 harg3 x0 x2 W h0 h2 16 inb_S256x2880_S256x256_0_512 b r)
    · intro b r
      exact (congrArg (BitVec.setWidth 8) (congrFun (codeA_3 c arg1 harg1 arg3 harg3 x0 x2) (ix2 b r))).trans
        (code8 arg1 harg1 arg3 harg3 x0 x2 W h0 h2 24 inb_S256x2880_S256x256_0_768 b r)
    · intro b r
      exact (congrArg (BitVec.setWidth 8) (congrFun (codeA_4 c arg1 harg1 arg3 harg3 x0 x2) (ix2 b r))).trans
        (code8 arg1 harg1 arg3 harg3 x0 x2 W h0 h2 32 inb_S256x2880_S256x256_0_1024 b r)
    · intro b r
      exact (congrArg (BitVec.setWidth 8) (congrFun (codeA_5 c arg1 harg1 arg3 harg3 x0 x2) (ix2 b r))).trans
        (code8 arg1 harg1 arg3 harg3 x0 x2 W h0 h2 40 inb_S256x2880_S256x256_0_1280 b r)
    · intro b r
      exact (congrArg (BitVec.setWidth 8) (congrFun (codeA_6 c arg1 harg1 arg3 harg3 x0 x2) (ix2 b r))).trans
        (code8 arg1 harg1 arg3 harg3 x0 x2 W h0 h2 48 inb_S256x2880_S256x256_0_1536 b r)
    · intro b r
      exact (congrArg (BitVec.setWidth 8) (congrFun (codeA_7 c arg1 harg1 arg3 harg3 x0 x2) (ix2 b r))).trans
        (code8 arg1 harg1 arg3 harg3 x0 x2 W h0 h2 56 inb_S256x2880_S256x256_0_1792 b r)
    · intro b r
      exact (congrArg (BitVec.setWidth 8) (congrFun (codeA_8 c arg1 harg1 arg3 harg3 x0 x2) (ix2 b r))).trans
        (code8 arg1 harg1 arg3 harg3 x0 x2 W h0 h2 64 inb_S256x2880_S256x256_0_2048 b r)
    · intro b r
      exact (congrArg (BitVec.setWidth 8) (congrFun (codeA_9 c arg1 harg1 arg3 harg3 x0 x2) (ix2 b r))).trans
        (code8 arg1 harg1 arg3 harg3 x0 x2 W h0 h2 72 inb_S256x2880_S256x256_0_2304 b r)
    · intro b r
      exact (congrArg (BitVec.setWidth 8) (congrFun (codeA_10 c arg1 harg1 arg3 harg3 x0 x2) (ix2 b r))).trans
        (code8 arg1 harg1 arg3 harg3 x0 x2 W h0 h2 80 inb_S256x2880_S256x256_0_2560 b r)
    · intro b r
      exact (congrArg (BitVec.setWidth 8) (congrFun (codeA_11 c arg1 harg1 arg3 harg3 x0 x2) (ix2 b r))).trans
        (code2 arg1 harg1 arg3 harg3 x0 x2 W h0 h2 b r)

include h0 h2 in
/-- The codes that a later grid point stores. -/
theorem out0_B_9_at (hc0 : ¬cond0_0 i) (r : Fin 256) (b : Fin 90) :
    out0_B_9 (F := Ideal) c i arg1 harg1 arg2 harg2 arg3 harg3 arg4 harg4 arg5 harg5 arg6 harg6 arg7 harg7 arg8 harg8 arg9 harg9 arg10 harg10 arg11 harg11 hc0 x0 x1 x2 xs0 (ix2 r b) = codeR (W r.val) b.val := by
  unfold out0_B_9 kernelRun0_B
  dsimp only
  refine (View.read_writes_cons_hit_of_coords VO0_9 _ _ _ _ (ix2 r b : S256x90.Idx) (ix2 r b) (fun a => ?_)).trans ?_
  · match a with
    | ⟨0, _⟩ => show r.val = 0 + 1 * r.val; omega
    | ⟨1, _⟩ => show b.val = 0 + 1 * b.val; omega
  · refine pay748_at (fun b r => codeR (W r) b) _ _ _ _ _ _ _ _ _ _ _ _ ?_ ?_ ?_ ?_ ?_ ?_ ?_ ?_ ?_ ?_ ?_ ?_ r b
    · intro b r
      exact (congrArg (BitVec.setWidth 8) (congrFun (codeB_0 c arg1 harg1 arg3 harg3 x0 x2) (ix2 b r))).trans
        (code8 arg1 harg1 arg3 harg3 x0 x2 W h0 h2 0 inb_S256x2880_S256x256_0_0 b r)
    · intro b r
      exact (congrArg (BitVec.setWidth 8) (congrFun (codeB_1 c arg1 harg1 arg3 harg3 x0 x2) (ix2 b r))).trans
        (code8 arg1 harg1 arg3 harg3 x0 x2 W h0 h2 8 inb_S256x2880_S256x256_0_256 b r)
    · intro b r
      exact (congrArg (BitVec.setWidth 8) (congrFun (codeB_2 c arg1 harg1 arg3 harg3 x0 x2) (ix2 b r))).trans
        (code8 arg1 harg1 arg3 harg3 x0 x2 W h0 h2 16 inb_S256x2880_S256x256_0_512 b r)
    · intro b r
      exact (congrArg (BitVec.setWidth 8) (congrFun (codeB_3 c arg1 harg1 arg3 harg3 x0 x2) (ix2 b r))).trans
        (code8 arg1 harg1 arg3 harg3 x0 x2 W h0 h2 24 inb_S256x2880_S256x256_0_768 b r)
    · intro b r
      exact (congrArg (BitVec.setWidth 8) (congrFun (codeB_4 c arg1 harg1 arg3 harg3 x0 x2) (ix2 b r))).trans
        (code8 arg1 harg1 arg3 harg3 x0 x2 W h0 h2 32 inb_S256x2880_S256x256_0_1024 b r)
    · intro b r
      exact (congrArg (BitVec.setWidth 8) (congrFun (codeB_5 c arg1 harg1 arg3 harg3 x0 x2) (ix2 b r))).trans
        (code8 arg1 harg1 arg3 harg3 x0 x2 W h0 h2 40 inb_S256x2880_S256x256_0_1280 b r)
    · intro b r
      exact (congrArg (BitVec.setWidth 8) (congrFun (codeB_6 c arg1 harg1 arg3 harg3 x0 x2) (ix2 b r))).trans
        (code8 arg1 harg1 arg3 harg3 x0 x2 W h0 h2 48 inb_S256x2880_S256x256_0_1536 b r)
    · intro b r
      exact (congrArg (BitVec.setWidth 8) (congrFun (codeB_7 c arg1 harg1 arg3 harg3 x0 x2) (ix2 b r))).trans
        (code8 arg1 harg1 arg3 harg3 x0 x2 W h0 h2 56 inb_S256x2880_S256x256_0_1792 b r)
    · intro b r
      exact (congrArg (BitVec.setWidth 8) (congrFun (codeB_8 c arg1 harg1 arg3 harg3 x0 x2) (ix2 b r))).trans
        (code8 arg1 harg1 arg3 harg3 x0 x2 W h0 h2 64 inb_S256x2880_S256x256_0_2048 b r)
    · intro b r
      exact (congrArg (BitVec.setWidth 8) (congrFun (codeB_9 c arg1 harg1 arg3 harg3 x0 x2) (ix2 b r))).trans
        (code8 arg1 harg1 arg3 harg3 x0 x2 W h0 h2 72 inb_S256x2880_S256x256_0_2304 b r)
    · intro b r
      exact (congrArg (BitVec.setWidth 8) (congrFun (codeB_10 c arg1 harg1 arg3 harg3 x0 x2) (ix2 b r))).trans
        (code8 arg1 harg1 arg3 harg3 x0 x2 W h0 h2 80 inb_S256x2880_S256x256_0_2560 b r)
    · intro b r
      exact (congrArg (BitVec.setWidth 8) (congrFun (codeB_11 c arg1 harg1 arg3 harg3 x0 x2) (ix2 b r))).trans
        (code2 arg1 harg1 arg3 harg3 x0 x2 W h0 h2 b r)

include h0 h1 in
/-- Stored x tile 0. -/
theorem xtile_0 (r k : Fin 256) : kernelRun0_A.sl.v3784 (F := Ideal) c arg1 harg1 arg2 harg2 x0 x1 (ix2 r k) = ((deqR (X r.val) (0 + k.val) : ℝ) : EReal) :=
  (congrFun (xt_0 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 0 inb_S256x2880_S256x256_0_0 k r))))

include h0 h1 in
/-- Stored x tile 1. -/
theorem xtile_1 (r k : Fin 256) : kernelRun0_A.sl.v4076 (F := Ideal) c arg1 harg1 arg2 harg2 x0 x1 (ix2 r k) = ((deqR (X r.val) (256 + k.val) : ℝ) : EReal) :=
  (congrFun (xt_1 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 8 inb_S256x2880_S256x256_0_256 k r))))

include h0 h1 in
/-- Stored x tile 2. -/
theorem xtile_2 (r k : Fin 256) : kernelRun0_A.sl.v4368 (F := Ideal) c arg1 harg1 arg2 harg2 x0 x1 (ix2 r k) = ((deqR (X r.val) (512 + k.val) : ℝ) : EReal) :=
  (congrFun (xt_2 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 16 inb_S256x2880_S256x256_0_512 k r))))

include h0 h1 in
/-- Stored x tile 3. -/
theorem xtile_3 (r k : Fin 256) : kernelRun0_A.sl.v4660 (F := Ideal) c arg1 harg1 arg2 harg2 x0 x1 (ix2 r k) = ((deqR (X r.val) (768 + k.val) : ℝ) : EReal) :=
  (congrFun (xt_3 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 24 inb_S256x2880_S256x256_0_768 k r))))

include h0 h1 in
/-- Stored x tile 4. -/
theorem xtile_4 (r k : Fin 256) : kernelRun0_A.sl.v4952 (F := Ideal) c arg1 harg1 arg2 harg2 x0 x1 (ix2 r k) = ((deqR (X r.val) (1024 + k.val) : ℝ) : EReal) :=
  (congrFun (xt_4 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 32 inb_S256x2880_S256x256_0_1024 k r))))

include h0 h1 in
/-- Stored x tile 5. -/
theorem xtile_5 (r k : Fin 256) : kernelRun0_A.sl.v5244 (F := Ideal) c arg1 harg1 arg2 harg2 x0 x1 (ix2 r k) = ((deqR (X r.val) (1280 + k.val) : ℝ) : EReal) :=
  (congrFun (xt_5 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 40 inb_S256x2880_S256x256_0_1280 k r))))

include h0 h1 in
/-- Stored x tile 6. -/
theorem xtile_6 (r k : Fin 256) : kernelRun0_A.sl.v5536 (F := Ideal) c arg1 harg1 arg2 harg2 x0 x1 (ix2 r k) = ((deqR (X r.val) (1536 + k.val) : ℝ) : EReal) :=
  (congrFun (xt_6 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 48 inb_S256x2880_S256x256_0_1536 k r))))

include h0 h1 in
/-- Stored x tile 7. -/
theorem xtile_7 (r k : Fin 256) : kernelRun0_A.sl.v5828 (F := Ideal) c arg1 harg1 arg2 harg2 x0 x1 (ix2 r k) = ((deqR (X r.val) (1792 + k.val) : ℝ) : EReal) :=
  (congrFun (xt_7 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 56 inb_S256x2880_S256x256_0_1792 k r))))

include h0 h1 in
/-- Stored x tile 8. -/
theorem xtile_8 (r k : Fin 256) : kernelRun0_A.sl.v6120 (F := Ideal) c arg1 harg1 arg2 harg2 x0 x1 (ix2 r k) = ((deqR (X r.val) (2048 + k.val) : ℝ) : EReal) :=
  (congrFun (xt_8 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 64 inb_S256x2880_S256x256_0_2048 k r))))

include h0 h1 in
/-- Stored x tile 9. -/
theorem xtile_9 (r k : Fin 256) : kernelRun0_A.sl.v6412 (F := Ideal) c arg1 harg1 arg2 harg2 x0 x1 (ix2 r k) = ((deqR (X r.val) (2304 + k.val) : ℝ) : EReal) :=
  (congrFun (xt_9 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 72 inb_S256x2880_S256x256_0_2304 k r))))

include h0 h1 in
/-- Stored x tile 10. -/
theorem xtile_10 (r k : Fin 256) : kernelRun0_A.sl.v6704 (F := Ideal) c arg1 harg1 arg2 harg2 x0 x1 (ix2 r k) = ((deqR (X r.val) (2560 + k.val) : ℝ) : EReal) :=
  (congrFun (xt_10 c arg1 harg1 arg2 harg2 x0 x1) (ix2 r k)).trans
    ((congrFun (shapeCast_self _ _) _).trans
      ((transpose_apply [1, 0] _ transposes_S256x256_p1_0_S256x256 (ix2 r k) (ix2 k r) (fun a => by
        match a with
        | ⟨0, _⟩ => rfl
        | ⟨1, _⟩ => rfl)).trans
        ((congrFun (congrArg (tDeq tf8 (hT arg1 harg1 x0)) (shapeCast_self _ _)) _).trans
          (deq8 arg1 harg1 arg2 harg2 x0 x1 X h0 h1 80 inb_S256x2880_S256x256_0_2560 k r))))

include h0 h1 in
/-- The last stored x tile. -/
theorem xtile_11 (r : Fin 256) (k : Fin 64) : kernelRun0_A.sl.v6997 (F := Ideal) c arg1 harg1 arg2 harg2 x0 x1 (ix2 r k) = ((deqR (X r.val) (2816 + k.val) : ℝ) : EReal) :=
  (congrFun (xt_11 c arg1 harg1 arg2 harg2 x0 x1) (ix2 r k)).trans
    ((congrFun (shapeCast_self _ _) _).trans
      ((transpose_apply [1, 0] _ transposes_S64x256_p1_0_S256x64 (ix2 r k) (ix2 k r) (fun a => by
        match a with
        | ⟨0, _⟩ => rfl
        | ⟨1, _⟩ => rfl)).trans
        ((congrFun (congrArg (tDeq tf2 (hS arg1 harg1 x0)) (shapeCast_self _ _)) _).trans
          (deq2 arg1 harg1 arg2 harg2 x0 x1 X h0 h1 k r))))

include h0 h1 in
/-- What the scratch holds after the stores of the first grid point. -/
theorem stored_at {v : View sig .tc .vmem S256x2880 .bf16} (f : v.ty.Contents (Elt Ideal)) (y : S256x2880.Idx) :
    v.read (Elt Ideal) (v.writes (Elt Ideal) f (kernelRun0_A.sl.HS0_12 (F := Ideal) c arg1 harg1 arg2 harg2 x0 x1)) y
      = ((deqR (X (y 0).val) (y 1).val : ℝ) : EReal) := by
  refine rw_last f _ (fun y => ((deqR (X (y 0).val) (y 1).val : ℝ) : EReal)) y _ _
    (fun r k => xtile_11 c arg1 harg1 arg2 harg2 x0 x1 X h0 h1 r k) (fun hy => ?_)
  refine rw_cols f _ (fun y => ((deqR (X (y 0).val) (y 1).val : ℝ) : EReal)) y 2560 _ _
    (fun r k _ => xtile_10 c arg1 harg1 arg2 harg2 x0 x1 X h0 h1 r k) (by omega) (fun hy => ?_)
  refine rw_cols f _ (fun y => ((deqR (X (y 0).val) (y 1).val : ℝ) : EReal)) y 2304 _ _
    (fun r k _ => xtile_9 c arg1 harg1 arg2 harg2 x0 x1 X h0 h1 r k) (by omega) (fun hy => ?_)
  refine rw_cols f _ (fun y => ((deqR (X (y 0).val) (y 1).val : ℝ) : EReal)) y 2048 _ _
    (fun r k _ => xtile_8 c arg1 harg1 arg2 harg2 x0 x1 X h0 h1 r k) (by omega) (fun hy => ?_)
  refine rw_cols f _ (fun y => ((deqR (X (y 0).val) (y 1).val : ℝ) : EReal)) y 1792 _ _
    (fun r k _ => xtile_7 c arg1 harg1 arg2 harg2 x0 x1 X h0 h1 r k) (by omega) (fun hy => ?_)
  refine rw_cols f _ (fun y => ((deqR (X (y 0).val) (y 1).val : ℝ) : EReal)) y 1536 _ _
    (fun r k _ => xtile_6 c arg1 harg1 arg2 harg2 x0 x1 X h0 h1 r k) (by omega) (fun hy => ?_)
  refine rw_cols f _ (fun y => ((deqR (X (y 0).val) (y 1).val : ℝ) : EReal)) y 1280 _ _
    (fun r k _ => xtile_5 c arg1 harg1 arg2 harg2 x0 x1 X h0 h1 r k) (by omega) (fun hy => ?_)
  refine rw_cols f _ (fun y => ((deqR (X (y 0).val) (y 1).val : ℝ) : EReal)) y 1024 _ _
    (fun r k _ => xtile_4 c arg1 harg1 arg2 harg2 x0 x1 X h0 h1 r k) (by omega) (fun hy => ?_)
  refine rw_cols f _ (fun y => ((deqR (X (y 0).val) (y 1).val : ℝ) : EReal)) y 768 _ _
    (fun r k _ => xtile_3 c arg1 harg1 arg2 harg2 x0 x1 X h0 h1 r k) (by omega) (fun hy => ?_)
  refine rw_cols f _ (fun y => ((deqR (X (y 0).val) (y 1).val : ℝ) : EReal)) y 512 _ _
    (fun r k _ => xtile_2 c arg1 harg1 arg2 harg2 x0 x1 X h0 h1 r k) (by omega) (fun hy => ?_)
  refine rw_cols f _ (fun y => ((deqR (X (y 0).val) (y 1).val : ℝ) : EReal)) y 256 _ _
    (fun r k _ => xtile_1 c arg1 harg1 arg2 harg2 x0 x1 X h0 h1 r k) (by omega) (fun hy => ?_)
  refine rw_cols f _ (fun y => ((deqR (X (y 0).val) (y 1).val : ℝ) : EReal)) y 0 _ _
    (fun r k _ => xtile_0 c arg1 harg1 arg2 harg2 x0 x1 X h0 h1 r k) (by omega) (fun hy => ?_)
  exact absurd hy (Nat.not_lt_zero _)

include h0 h1 in
/-- What the first grid point leaves in the scratch. -/
theorem sout0_A_0_at (hc0 : cond0_0 i) (r : Fin 256) (k : Fin 2880) :
    sout0_A_0 (F := Ideal) c i arg1 harg1 arg2 harg2 arg3 harg3 arg4 harg4 arg5 harg5 arg6 harg6 arg7 harg7 arg8 harg8 arg9 harg9 arg10 harg10 arg11 harg11 hc0 x0 x1 x2 (ix2 r k) = ((deqR (X r.val) k.val : ℝ) : EReal) :=
  stored_at c arg1 harg1 arg2 harg2 x0 x1 X h0 h1 VS0_0.junk (ix2 r k)

include h0 h1 h2 in
/-- The products that a first grid point stores. -/
theorem out0_A_3_at (hc0 : cond0_0 i) (r c' : Fin 256) :
    out0_A_3 (F := Ideal) c i arg1 harg1 arg2 harg2 arg3 harg3 arg4 harg4 arg5 harg5 arg6 harg6 arg7 harg7 arg8 harg8 arg9 harg9 arg10 harg10 arg11 harg11 hc0 x0 x1 x2 (ix2 r c') = ((∑ k ∈ Finset.range 2880, deqR (X r.val) k * deqR (W c'.val) k : ℝ) : EReal) := by
  unfold out0_A_3 kernelRun0_A
  dsimp only
  refine (View.read_writes_cons_hit_of_coords VO0_3 _ _ _ _ (ix2 r c' : S256x256.Idx) (ix2 r c') (fun a => ?_)).trans ?_
  · match a with
    | ⟨0, _⟩ => show r.val = 0 + 1 * r.val; omega
    | ⟨1, _⟩ => show c'.val = 0 + 1 * c'.val; omega
  · refine pay1_at _ _ _ _ _ _ _ _ _ _ _ _ (fun k => deqR (X r.val) k * deqR (W c'.val) k) (ix2 r c') ?_ ?_ ?_ ?_ ?_ ?_ ?_ ?_ ?_ ?_ ?_ ?_
    · refine (congrFun (dotA_0 c arg1 harg1 arg2 harg2 arg3 harg3 arg11 x0 x1 x2) (ix2 r c')).trans ((dot_at (K := 256) _ _ (fun k => deqR (X r.val) (0 + k)) (fun k => deqR (W c'.val) (0 + k)) r c'
        (fun k => (stored_at c arg1 harg1 arg2 harg2 x0 x1 X h0 h1 arg11.view.junk _).trans (by
          show ((deqR (X (0 + 1 * r.val)) (0 + 1 * k.val) : ℝ) : EReal) = _
          rw [Nat.one_mul, Nat.one_mul, Nat.zero_add]))
        (fun k => deq8 arg1 harg1 arg3 harg3 x0 x2 W h0 h2 0 inb_S256x2880_S256x256_0_0 k c')).trans (by simp only [Nat.zero_add]))
    · refine (congrFun (dotA_1 c arg1 harg1 arg2 harg2 arg3 harg3 arg11 x0 x1 x2) (ix2 r c')).trans (dot_at (K := 256) _ _ (fun k => deqR (X r.val) (256 + k)) (fun k => deqR (W c'.val) (256 + k)) r c'
        (fun k => (stored_at c arg1 harg1 arg2 harg2 x0 x1 X h0 h1 arg11.view.junk _).trans (by
          show ((deqR (X (0 + 1 * r.val)) (256 + 1 * k.val) : ℝ) : EReal) = _
          rw [Nat.one_mul, Nat.one_mul, Nat.zero_add]))
        (fun k => deq8 arg1 harg1 arg3 harg3 x0 x2 W h0 h2 8 inb_S256x2880_S256x256_0_256 k c'))
    · refine (congrFun (dotA_2 c arg1 harg1 arg2 harg2 arg3 harg3 arg11 x0 x1 x2) (ix2 r c')).trans (dot_at (K := 256) _ _ (fun k => deqR (X r.val) (512 + k)) (fun k => deqR (W c'.val) (512 + k)) r c'
        (fun k => (stored_at c arg1 harg1 arg2 harg2 x0 x1 X h0 h1 arg11.view.junk _).trans (by
          show ((deqR (X (0 + 1 * r.val)) (512 + 1 * k.val) : ℝ) : EReal) = _
          rw [Nat.one_mul, Nat.one_mul, Nat.zero_add]))
        (fun k => deq8 arg1 harg1 arg3 harg3 x0 x2 W h0 h2 16 inb_S256x2880_S256x256_0_512 k c'))
    · refine (congrFun (dotA_3 c arg1 harg1 arg2 harg2 arg3 harg3 arg11 x0 x1 x2) (ix2 r c')).trans (dot_at (K := 256) _ _ (fun k => deqR (X r.val) (768 + k)) (fun k => deqR (W c'.val) (768 + k)) r c'
        (fun k => (stored_at c arg1 harg1 arg2 harg2 x0 x1 X h0 h1 arg11.view.junk _).trans (by
          show ((deqR (X (0 + 1 * r.val)) (768 + 1 * k.val) : ℝ) : EReal) = _
          rw [Nat.one_mul, Nat.one_mul, Nat.zero_add]))
        (fun k => deq8 arg1 harg1 arg3 harg3 x0 x2 W h0 h2 24 inb_S256x2880_S256x256_0_768 k c'))
    · refine (congrFun (dotA_4 c arg1 harg1 arg2 harg2 arg3 harg3 arg11 x0 x1 x2) (ix2 r c')).trans (dot_at (K := 256) _ _ (fun k => deqR (X r.val) (1024 + k)) (fun k => deqR (W c'.val) (1024 + k)) r c'
        (fun k => (stored_at c arg1 harg1 arg2 harg2 x0 x1 X h0 h1 arg11.view.junk _).trans (by
          show ((deqR (X (0 + 1 * r.val)) (1024 + 1 * k.val) : ℝ) : EReal) = _
          rw [Nat.one_mul, Nat.one_mul, Nat.zero_add]))
        (fun k => deq8 arg1 harg1 arg3 harg3 x0 x2 W h0 h2 32 inb_S256x2880_S256x256_0_1024 k c'))
    · refine (congrFun (dotA_5 c arg1 harg1 arg2 harg2 arg3 harg3 arg11 x0 x1 x2) (ix2 r c')).trans (dot_at (K := 256) _ _ (fun k => deqR (X r.val) (1280 + k)) (fun k => deqR (W c'.val) (1280 + k)) r c'
        (fun k => (stored_at c arg1 harg1 arg2 harg2 x0 x1 X h0 h1 arg11.view.junk _).trans (by
          show ((deqR (X (0 + 1 * r.val)) (1280 + 1 * k.val) : ℝ) : EReal) = _
          rw [Nat.one_mul, Nat.one_mul, Nat.zero_add]))
        (fun k => deq8 arg1 harg1 arg3 harg3 x0 x2 W h0 h2 40 inb_S256x2880_S256x256_0_1280 k c'))
    · refine (congrFun (dotA_6 c arg1 harg1 arg2 harg2 arg3 harg3 arg11 x0 x1 x2) (ix2 r c')).trans (dot_at (K := 256) _ _ (fun k => deqR (X r.val) (1536 + k)) (fun k => deqR (W c'.val) (1536 + k)) r c'
        (fun k => (stored_at c arg1 harg1 arg2 harg2 x0 x1 X h0 h1 arg11.view.junk _).trans (by
          show ((deqR (X (0 + 1 * r.val)) (1536 + 1 * k.val) : ℝ) : EReal) = _
          rw [Nat.one_mul, Nat.one_mul, Nat.zero_add]))
        (fun k => deq8 arg1 harg1 arg3 harg3 x0 x2 W h0 h2 48 inb_S256x2880_S256x256_0_1536 k c'))
    · refine (congrFun (dotA_7 c arg1 harg1 arg2 harg2 arg3 harg3 arg11 x0 x1 x2) (ix2 r c')).trans (dot_at (K := 256) _ _ (fun k => deqR (X r.val) (1792 + k)) (fun k => deqR (W c'.val) (1792 + k)) r c'
        (fun k => (stored_at c arg1 harg1 arg2 harg2 x0 x1 X h0 h1 arg11.view.junk _).trans (by
          show ((deqR (X (0 + 1 * r.val)) (1792 + 1 * k.val) : ℝ) : EReal) = _
          rw [Nat.one_mul, Nat.one_mul, Nat.zero_add]))
        (fun k => deq8 arg1 harg1 arg3 harg3 x0 x2 W h0 h2 56 inb_S256x2880_S256x256_0_1792 k c'))
    · refine (congrFun (dotA_8 c arg1 harg1 arg2 harg2 arg3 harg3 arg11 x0 x1 x2) (ix2 r c')).trans (dot_at (K := 256) _ _ (fun k => deqR (X r.val) (2048 + k)) (fun k => deqR (W c'.val) (2048 + k)) r c'
        (fun k => (stored_at c arg1 harg1 arg2 harg2 x0 x1 X h0 h1 arg11.view.junk _).trans (by
          show ((deqR (X (0 + 1 * r.val)) (2048 + 1 * k.val) : ℝ) : EReal) = _
          rw [Nat.one_mul, Nat.one_mul, Nat.zero_add]))
        (fun k => deq8 arg1 harg1 arg3 harg3 x0 x2 W h0 h2 64 inb_S256x2880_S256x256_0_2048 k c'))
    · refine (congrFun (dotA_9 c arg1 harg1 arg2 harg2 arg3 harg3 arg11 x0 x1 x2) (ix2 r c')).trans (dot_at (K := 256) _ _ (fun k => deqR (X r.val) (2304 + k)) (fun k => deqR (W c'.val) (2304 + k)) r c'
        (fun k => (stored_at c arg1 harg1 arg2 harg2 x0 x1 X h0 h1 arg11.view.junk _).trans (by
          show ((deqR (X (0 + 1 * r.val)) (2304 + 1 * k.val) : ℝ) : EReal) = _
          rw [Nat.one_mul, Nat.one_mul, Nat.zero_add]))
        (fun k => deq8 arg1 harg1 arg3 harg3 x0 x2 W h0 h2 72 inb_S256x2880_S256x256_0_2304 k c'))
    · refine (congrFun (dotA_10 c arg1 harg1 arg2 harg2 arg3 harg3 arg11 x0 x1 x2) (ix2 r c')).trans (dot_at (K := 256) _ _ (fun k => deqR (X r.val) (2560 + k)) (fun k => deqR (W c'.val) (2560 + k)) r c'
        (fun k => (stored_at c arg1 harg1 arg2 harg2 x0 x1 X h0 h1 arg11.view.junk _).trans (by
          show ((deqR (X (0 + 1 * r.val)) (2560 + 1 * k.val) : ℝ) : EReal) = _
          rw [Nat.one_mul, Nat.one_mul, Nat.zero_add]))
        (fun k => deq8 arg1 harg1 arg3 harg3 x0 x2 W h0 h2 80 inb_S256x2880_S256x256_0_2560 k c'))
    · refine (congrFun (dotA_11 c arg1 harg1 arg2 harg2 arg3 harg3 arg11 x0 x1 x2) (ix2 r c')).trans (dot_at (K := 64) _ _ (fun k => deqR (X r.val) (2816 + k)) (fun k => deqR (W c'.val) (2816 + k)) r c'
        (fun k => (stored_at c arg1 harg1 arg2 harg2 x0 x1 X h0 h1 arg11.view.junk _).trans (by
          show ((deqR (X (0 + 1 * r.val)) (2816 + 1 * k.val) : ℝ) : EReal) = _
          rw [Nat.one_mul, Nat.one_mul, Nat.zero_add]))
        (fun k => deq2 arg1 harg1 arg3 harg3 x0 x2 W h0 h2 k c'))

include h0 hs h2 in
/-- The products that a later grid point stores. -/
theorem out0_B_3_at (hc0 : ¬cond0_0 i) (r c' : Fin 256) :
    out0_B_3 (F := Ideal) c i arg1 harg1 arg2 harg2 arg3 harg3 arg4 harg4 arg5 harg5 arg6 harg6 arg7 harg7 arg8 harg8 arg9 harg9 arg10 harg10 arg11 harg11 hc0 x0 x1 x2 xs0 (ix2 r c') = ((∑ k ∈ Finset.range 2880, deqR (X r.val) k * deqR (W c'.val) k : ℝ) : EReal) := by
  unfold out0_B_3 kernelRun0_B
  dsimp only
  refine (View.read_writes_cons_hit_of_coords VO0_3 _ _ _ _ (ix2 r c' : S256x256.Idx) (ix2 r c') (fun a => ?_)).trans ?_
  · match a with
    | ⟨0, _⟩ => show r.val = 0 + 1 * r.val; omega
    | ⟨1, _⟩ => show c'.val = 0 + 1 * c'.val; omega
  · refine pay1_at _ _ _ _ _ _ _ _ _ _ _ _ (fun k => deqR (X r.val) k * deqR (W c'.val) k) (ix2 r c') ?_ ?_ ?_ ?_ ?_ ?_ ?_ ?_ ?_ ?_ ?_ ?_
    · refine (congrFun (dotB_0 c arg1 harg1 arg3 harg3 arg11 harg11 x0 x2 xs0) (ix2 r c')).trans ((dot_at (K := 256) _ _ (fun k => deqR (X r.val) (0 + k)) (fun k => deqR (W c'.val) (0 + k)) r c'
        (fun k => (bT_at arg11 harg11 xs0 0 inb_S256x2880_S256x256_0_0 r k (by omega)).trans (hs r _))
        (fun k => deq8 arg1 harg1 arg3 harg3 x0 x2 W h0 h2 0 inb_S256x2880_S256x256_0_0 k c')).trans (by simp only [Nat.zero_add]))
    · refine (congrFun (dotB_1 c arg1 harg1 arg3 harg3 arg11 harg11 x0 x2 xs0) (ix2 r c')).trans (dot_at (K := 256) _ _ (fun k => deqR (X r.val) (256 + k)) (fun k => deqR (W c'.val) (256 + k)) r c'
        (fun k => (bT_at arg11 harg11 xs0 256 inb_S256x2880_S256x256_0_256 r k (by omega)).trans (hs r _))
        (fun k => deq8 arg1 harg1 arg3 harg3 x0 x2 W h0 h2 8 inb_S256x2880_S256x256_0_256 k c'))
    · refine (congrFun (dotB_2 c arg1 harg1 arg3 harg3 arg11 harg11 x0 x2 xs0) (ix2 r c')).trans (dot_at (K := 256) _ _ (fun k => deqR (X r.val) (512 + k)) (fun k => deqR (W c'.val) (512 + k)) r c'
        (fun k => (bT_at arg11 harg11 xs0 512 inb_S256x2880_S256x256_0_512 r k (by omega)).trans (hs r _))
        (fun k => deq8 arg1 harg1 arg3 harg3 x0 x2 W h0 h2 16 inb_S256x2880_S256x256_0_512 k c'))
    · refine (congrFun (dotB_3 c arg1 harg1 arg3 harg3 arg11 harg11 x0 x2 xs0) (ix2 r c')).trans (dot_at (K := 256) _ _ (fun k => deqR (X r.val) (768 + k)) (fun k => deqR (W c'.val) (768 + k)) r c'
        (fun k => (bT_at arg11 harg11 xs0 768 inb_S256x2880_S256x256_0_768 r k (by omega)).trans (hs r _))
        (fun k => deq8 arg1 harg1 arg3 harg3 x0 x2 W h0 h2 24 inb_S256x2880_S256x256_0_768 k c'))
    · refine (congrFun (dotB_4 c arg1 harg1 arg3 harg3 arg11 harg11 x0 x2 xs0) (ix2 r c')).trans (dot_at (K := 256) _ _ (fun k => deqR (X r.val) (1024 + k)) (fun k => deqR (W c'.val) (1024 + k)) r c'
        (fun k => (bT_at arg11 harg11 xs0 1024 inb_S256x2880_S256x256_0_1024 r k (by omega)).trans (hs r _))
        (fun k => deq8 arg1 harg1 arg3 harg3 x0 x2 W h0 h2 32 inb_S256x2880_S256x256_0_1024 k c'))
    · refine (congrFun (dotB_5 c arg1 harg1 arg3 harg3 arg11 harg11 x0 x2 xs0) (ix2 r c')).trans (dot_at (K := 256) _ _ (fun k => deqR (X r.val) (1280 + k)) (fun k => deqR (W c'.val) (1280 + k)) r c'
        (fun k => (bT_at arg11 harg11 xs0 1280 inb_S256x2880_S256x256_0_1280 r k (by omega)).trans (hs r _))
        (fun k => deq8 arg1 harg1 arg3 harg3 x0 x2 W h0 h2 40 inb_S256x2880_S256x256_0_1280 k c'))
    · refine (congrFun (dotB_6 c arg1 harg1 arg3 harg3 arg11 harg11 x0 x2 xs0) (ix2 r c')).trans (dot_at (K := 256) _ _ (fun k => deqR (X r.val) (1536 + k)) (fun k => deqR (W c'.val) (1536 + k)) r c'
        (fun k => (bT_at arg11 harg11 xs0 1536 inb_S256x2880_S256x256_0_1536 r k (by omega)).trans (hs r _))
        (fun k => deq8 arg1 harg1 arg3 harg3 x0 x2 W h0 h2 48 inb_S256x2880_S256x256_0_1536 k c'))
    · refine (congrFun (dotB_7 c arg1 harg1 arg3 harg3 arg11 harg11 x0 x2 xs0) (ix2 r c')).trans (dot_at (K := 256) _ _ (fun k => deqR (X r.val) (1792 + k)) (fun k => deqR (W c'.val) (1792 + k)) r c'
        (fun k => (bT_at arg11 harg11 xs0 1792 inb_S256x2880_S256x256_0_1792 r k (by omega)).trans (hs r _))
        (fun k => deq8 arg1 harg1 arg3 harg3 x0 x2 W h0 h2 56 inb_S256x2880_S256x256_0_1792 k c'))
    · refine (congrFun (dotB_8 c arg1 harg1 arg3 harg3 arg11 harg11 x0 x2 xs0) (ix2 r c')).trans (dot_at (K := 256) _ _ (fun k => deqR (X r.val) (2048 + k)) (fun k => deqR (W c'.val) (2048 + k)) r c'
        (fun k => (bT_at arg11 harg11 xs0 2048 inb_S256x2880_S256x256_0_2048 r k (by omega)).trans (hs r _))
        (fun k => deq8 arg1 harg1 arg3 harg3 x0 x2 W h0 h2 64 inb_S256x2880_S256x256_0_2048 k c'))
    · refine (congrFun (dotB_9 c arg1 harg1 arg3 harg3 arg11 harg11 x0 x2 xs0) (ix2 r c')).trans (dot_at (K := 256) _ _ (fun k => deqR (X r.val) (2304 + k)) (fun k => deqR (W c'.val) (2304 + k)) r c'
        (fun k => (bT_at arg11 harg11 xs0 2304 inb_S256x2880_S256x256_0_2304 r k (by omega)).trans (hs r _))
        (fun k => deq8 arg1 harg1 arg3 harg3 x0 x2 W h0 h2 72 inb_S256x2880_S256x256_0_2304 k c'))
    · refine (congrFun (dotB_10 c arg1 harg1 arg3 harg3 arg11 harg11 x0 x2 xs0) (ix2 r c')).trans (dot_at (K := 256) _ _ (fun k => deqR (X r.val) (2560 + k)) (fun k => deqR (W c'.val) (2560 + k)) r c'
        (fun k => (bT_at arg11 harg11 xs0 2560 inb_S256x2880_S256x256_0_2560 r k (by omega)).trans (hs r _))
        (fun k => deq8 arg1 harg1 arg3 harg3 x0 x2 W h0 h2 80 inb_S256x2880_S256x256_0_2560 k c'))
    · refine (congrFun (dotB_11 c arg1 harg1 arg3 harg3 arg11 harg11 x0 x2 xs0) (ix2 r c')).trans (dot_at (K := 64) _ _ (fun k => deqR (X r.val) (2816 + k)) (fun k => deqR (W c'.val) (2816 + k)) r c'
        (fun k => (bS_at arg11 harg11 xs0 r k).trans (hs r _))
        (fun k => deq2 arg1 harg1 arg3 harg3 x0 x2 W h0 h2 k c'))

end Cert.KernelIdeal.Gen
-- ==== Proof.Quant.RefScalar.lean ====
/- What the reference's operations give on one block: its exponent, code and scales, and one element's 4-bit float. -/
module

public import proofs.«01_k».proof.Proof.Quant.Rotate

@[expose] public section

noncomputable section

namespace Cert.Quant

open Idealize.ShloMosaic

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem c32 : cst 0x42000000#32 = ((32 : ℝ) : EReal) := by
  show Ideal.ofBits .f32 _ = _
  simp [Ideal.ofBits, Ideal.ieee, -EReal.coe_mul]; norm_num
theorem c127 : cst 0x42FE0000#32 = ((127 : ℝ) : EReal) := by
  show Ideal.ofBits .f32 _ = _
  simp [Ideal.ofBits, Ideal.ieee, -EReal.coe_mul]; norm_num
theorem c126 : cst 0x42FC0000#32 = ((126 : ℝ) : EReal) := by
  show Ideal.ofBits .f32 _ = _
  simp [Ideal.ofBits, Ideal.ieee, -EReal.coe_mul]; norm_num
theorem cm127 : cst 0xC2FE0000#32 = ((-127 : ℝ) : EReal) := by
  show Ideal.ofBits .f32 _ = _
  simp [Ideal.ofBits, Ideal.ieee, -EReal.coe_mul]; norm_num
theorem cm126 : cst 0xC2FC0000#32 = ((-126 : ℝ) : EReal) := by
  show Ideal.ofBits .f32 _ = _
  simp [Ideal.ofBits, Ideal.ieee, -EReal.coe_mul]; norm_num
theorem cm6 : cst 0xC0C00000#32 = ((-6 : ℝ) : EReal) := by
  show Ideal.ofBits .f32 _ = _
  simp [Ideal.ofBits, Ideal.ieee, -EReal.coe_mul]; norm_num
theorem cm1 : cst 0xBF800000#32 = ((-1 : ℝ) : EReal) := by
  show Ideal.ofBits .f32 _ = _
  simp [Ideal.ofBits, Ideal.ieee, -EReal.coe_mul]; try norm_num

theorem eB_le (s : ℝ) : eB s ≤ 127 := by unfold eB eI; split <;> omega
theorem le_eB (s : ℝ) : -127 ≤ eB s := by unfold eB eI; split <;> omega

theorem aR_pos (s : ℝ) (h : rms s ≠ 0) : 0 < aR s := by
  have : 0 < rms s := lt_of_le_of_ne (Real.sqrt_nonneg _) (Ne.symm h)
  unfold aR cAlpha cSixth; positivity

/-- The clipped floor of the logarithm, zero for a zero block, is the block's exponent. -/
theorem refE_coe (s : ℝ) :
    Scalar.select (FloatOps.cmpf (F := Ideal) (φ := .f32) .oeq (rms s : EReal) (cst 0x00000000#32)) (cst 0x00000000#32)
      (FloatOps.minimumf (F := Ideal) (φ := .f32) (cst 0x42FE0000#32) (FloatOps.maximumf (F := Ideal) (φ := .f32) (cst 0xC2FE0000#32)
        (FloatOps.hostUnary (F := Ideal) (φ := .f32) .floor (FloatOps.hostDivf (F := Ideal) (φ := .f32)
          (FloatOps.hostUnary (F := Ideal) (φ := .f32) .log (aR s : EReal))
          (FloatOps.hostUnary (F := Ideal) (φ := .f32) .log (cst 0x40000000#32))))))
      = (((eB s : ℤ) : ℝ) : EReal) := by
  rw [cst_zero, c127, cm127, c20]
  show (if Ideal.cmp .oeq (rms s : EReal) ((0 : ℝ) : EReal) = 1 then ((0 : ℝ) : EReal)
    else min ((127 : ℝ) : EReal) (max ((-127 : ℝ) : EReal) (Ideal.liftRound Int.floor (Ideal.div (Ideal.log (aR s : EReal)) (Ideal.log ((2 : ℝ) : EReal)))))) = _
  by_cases h : rms s = 0
  · rw [h]; simp [Ideal.cmp, eB, h]
  · have h1 : Ideal.cmp .oeq (rms s : EReal) ((0 : ℝ) : EReal) ≠ 1 := by
      simp [Ideal.cmp, h]
    have hl : Real.log 2 ≠ 0 := (Real.log_pos (by norm_num)).ne'
    rw [if_neg h1, Ideal.log_coe, Ideal.log_coe, if_neg (not_le.2 (aR_pos s h)), if_neg (by norm_num), Ideal.div_coe hl, ← EReal.coe_mul,
      Ideal.liftRound_coe, mul_one_div]
    rw [eB, if_neg h, eI, ← coe_max', ← coe_min']
    congr 1
    push_cast
    rw [min_comm, max_comm, max_comm (-127 : ℝ)]
    rcases le_total (-127 : ℤ) ⌊Real.log (aR s) / Real.log 2⌋ with a | a <;>
      rcases le_total ⌊Real.log (aR s) / Real.log 2⌋ 127 with b | b <;>
      first
        | (have a' : (-127 : ℝ) ≤ (⌊Real.log (aR s) / Real.log 2⌋ : ℝ) := by exact_mod_cast a
           have b' : (⌊Real.log (aR s) / Real.log 2⌋ : ℝ) ≤ 127 := by exact_mod_cast b
           rw [max_eq_left a', min_eq_left b', min_eq_right b', max_eq_left a'])
        | (have a' : (-127 : ℝ) ≤ (⌊Real.log (aR s) / Real.log 2⌋ : ℝ) := by exact_mod_cast a
           have b' : (127 : ℝ) ≤ (⌊Real.log (aR s) / Real.log 2⌋ : ℝ) := by exact_mod_cast b
           rw [max_eq_left a', min_eq_right b', min_eq_left b', max_eq_left (by norm_num)])
        | (have a' : (⌊Real.log (aR s) / Real.log 2⌋ : ℝ) ≤ -127 := by exact_mod_cast a
           have b' : (⌊Real.log (aR s) / Real.log 2⌋ : ℝ) ≤ 127 := by exact_mod_cast b
           rw [max_eq_right a', min_eq_left (by norm_num), min_eq_right b', max_eq_right a'])
        | omega

/-- The exponent plus the bias, as an integer of 8 bits. -/
theorem refCode_eq (s : ℝ) :
    (FloatOps.fptosi (F := Ideal) (φ := .f32) 32 (FloatOps.addf (F := Ideal) (φ := .f32) (((eB s : ℤ) : ℝ) : EReal) (cst 0x42FE0000#32))).setWidth 8
      = BitVec.ofInt 8 (eB s + 127) := by
  rw [c127]
  show (Ideal.fptosi 32 ((((eB s : ℤ) : ℝ) : EReal) + ((127 : ℝ) : EReal))).setWidth 8 = _
  have h1 := eB_le s
  have h2 := le_eB s
  rw [← EReal.coe_add, Ideal.fptosi, Ideal.toIntClamped_coe]
  have h3 : ((eB s : ℤ) : ℝ) + 127 = ((eB s + 127 : ℤ) : ℝ) := by push_cast; rfl
  rw [h3, Int.floor_intCast, Int.ceil_intCast, ite_self]
  generalize eB s = e at *
  have h4 : max (-(2 ^ (32 - 1) : ℕ) : ℤ) (min ((2 ^ (32 - 1) : ℕ) - 1) (e + 127)) = e + 127 := by
    norm_num; omega
  rw [h4]
  obtain ⟨n, hn⟩ := Int.eq_ofNat_of_zero_le (show 0 ≤ e + 127 by omega)
  rw [hn]
  apply BitVec.eq_of_toNat_eq
  simp

theorem two_rpow (z : ℤ) : Real.rpow 2 (z : ℝ) = (2 : ℝ) ^ z := Real.rpow_intCast 2 z

/-- The reference's multiplier before rounding. -/
theorem refInv_coe (s : ℝ) :
    Scalar.select (FloatOps.cmpf (F := Ideal) (φ := .f32) .ogt (((eB s : ℤ) : ℝ) : EReal) (cst 0x42FC0000#32)) (cst 0x00000000#32)
      (FloatOps.hostPowf (F := Ideal) (φ := .f32) (cst 0x40000000#32) (FloatOps.hostNegf (F := Ideal) (φ := .f32) (((eB s : ℤ) : ℝ) : EReal)))
      = (invR s : EReal) := by
  rw [gt_eq _ _ _ c126, cst_zero, c20]
  show (if _ = 1 then ((0 : ℝ) : EReal) else Ideal.pow ((2 : ℝ) : EReal) (-(((eB s : ℤ) : ℝ) : EReal))) = _
  rw [← EReal.coe_neg, Ideal.pow_coe_coe, show (-((eB s : ℤ) : ℝ)) = ((-eB s : ℤ) : ℝ) by push_cast; rfl, two_rpow, invR]
  by_cases h : 126 < eB s
  · rw [if_pos h, if_pos]
    have : (126 : ℝ) < ((eB s : ℤ) : ℝ) := by exact_mod_cast h
    simp [this]
  · rw [if_neg h, if_neg]
    have : ¬ (126 : ℝ) < ((eB s : ℤ) : ℝ) := by exact_mod_cast h
    simp [this]

/-- The reference's multiplier after rounding. -/
theorem refScale_coe (s : ℝ) :
    Scalar.select (FloatOps.cmpf (F := Ideal) (φ := .f32) .olt (((eB s : ℤ) : ℝ) : EReal) (cst 0xC2FC0000#32)) (cst 0x00000000#32)
      (FloatOps.hostPowf (F := Ideal) (φ := .f32) (cst 0x40000000#32) (((eB s : ℤ) : ℝ) : EReal))
      = (scaleR s : EReal) := by
  rw [lt_eq _ _ _ cm126, cst_zero, c20]
  show (if _ = 1 then ((0 : ℝ) : EReal) else Ideal.pow ((2 : ℝ) : EReal) (((eB s : ℤ) : ℝ) : EReal)) = _
  rw [Ideal.pow_coe_coe, two_rpow, scaleR]
  by_cases h : eB s < -126
  · rw [if_pos h, if_pos]
    have : ((eB s : ℤ) : ℝ) < -126 := by exact_mod_cast h
    simp [this]
  · rw [if_neg h, if_neg]
    have : ¬ ((eB s : ℤ) : ℝ) < -126 := by exact_mod_cast h
    simp [this]

/-- The reference's 4-bit float of a value. -/
def refQ (c : EReal) : EReal :=
  let cl := FloatOps.minimumf (F := Ideal) (φ := .f32) (cst 0x40C00000#32) (FloatOps.maximumf (F := Ideal) (φ := .f32) (cst 0xC0C00000#32) c)
  let am := FloatOps.hostAbsf (F := Ideal) (φ := .f32) cl
  let st := Scalar.select (FloatOps.cmpf (F := Ideal) (φ := .f32) .olt am (cst 0x40000000#32)) (cst 0x3F000000#32)
    (Scalar.select (FloatOps.cmpf (F := Ideal) (φ := .f32) .olt am (cst 0x40800000#32)) (cst 0x3F800000#32) (cst 0x40000000#32))
  FloatOps.mulf (F := Ideal) (φ := .f32) (FloatOps.mulf (F := Ideal) (φ := .f32) (FloatOps.hostUnary (F := Ideal) (φ := .f32) .sign cl) st)
    (FloatOps.hostUnary (F := Ideal) (φ := .f32) .roundeven (FloatOps.mulf (F := Ideal) (φ := .f32) am (FloatOps.hostDivf (F := Ideal) (φ := .f32) (cst 0x3F800000#32) st)))

theorem refQ_coe (c : ℝ) : refQ (c : EReal) = (quantR c : EReal) := by
  unfold refQ
  have h1 : FloatOps.minimumf (F := Ideal) (φ := .f32) (cst 0x40C00000#32) (FloatOps.maximumf (F := Ideal) (φ := .f32) (cst 0xC0C00000#32) (c : EReal))
      = (clipR c : EReal) := by
    rw [c60, cm6]
    show min _ (max _ _) = _
    rw [← coe_max', ← coe_min', clipR]
  have h2 : FloatOps.hostAbsf (F := Ideal) (φ := .f32) (clipR c : EReal) = ((|clipR c| : ℝ) : EReal) := by
    show max _ (-_) = _
    rw [← EReal.coe_neg, ← coe_max']; rfl
  simp only [h1, h2]
  rw [lt_eq _ _ _ c20, lt_eq _ _ _ c40, c05, c10, c20]
  have h3 : Scalar.select (BitVec.ofBool (decide (|clipR c| < 2))) ((1 / 2 : ℝ) : EReal)
      (Scalar.select (BitVec.ofBool (decide (|clipR c| < 4))) ((1 : ℝ) : EReal) ((2 : ℝ) : EReal)) = (stepR |clipR c| : EReal) := by
    unfold stepR Scalar.select
    by_cases a : |clipR c| < 2 <;> by_cases b : |clipR c| < 4 <;> simp [a, b]
  have h4 : stepR |clipR c| ≠ 0 := by
    unfold stepR; split
    · norm_num
    · split <;> norm_num
  rw [h3]
  show Ideal.sign (clipR c : EReal) * (stepR |clipR c| : EReal) * Ideal.liftRound Ideal.roundHalfEven (((|clipR c| : ℝ) : EReal) * Ideal.div ((1 : ℝ) : EReal) (stepR |clipR c| : EReal)) = _
  rw [Ideal.sign_coe, Ideal.div_coe h4, ← EReal.coe_mul, ← EReal.coe_mul, ← EReal.coe_mul, Ideal.liftRound_coe, ← EReal.coe_mul, one_mul, quantR]

end Cert.Quant
-- ==== Proof.Quant.Ref.lean ====
/- What the reference computes, element by element, over real contents: the scale codes, both operands rounded and
   multiplied back, and the product. -/
module

public import proofs.«01_k».proof.Proof.Quant.RefScalar
public import proofs.«01_k».proof.Proof.Gen.ReferenceIdeal.Read

@[expose] public section

noncomputable section

namespace Cert.Quant.Ref

open Idealize.ShloMosaic Cert.ReferenceIdeal Cert.ReferenceIdeal.Read Cert.Quant
open scoped BigOperators

theorem sgn_eq (a b : ℕ) :
    (Scalar.select (IntOp.cmpi .eq (IntOp.andi (IntOp.ctpop (IntOp.andi (BitVec.ofNat 32 a) (BitVec.ofNat 32 b))) 1#32) 0#32)
      (cst 0x3F800000#32) (cst 0xBF800000#32) : EReal) = ((had a b : ℝ) : EReal) := by
  rw [c10, cm1, had, hadW]
  show Scalar.select (IntOp.cmpi .eq (IntOp.andi (IntOp.ctpop (BitVec.ofNat 32 a &&& BitVec.ofNat 32 b)) 1#32) 0#32) _ _ = _
  generalize IntOp.andi (IntOp.ctpop (BitVec.ofNat 32 a &&& BitVec.ofNat 32 b)) 1#32 = w
  by_cases h : w = 0#32
  · rw [if_pos h, h]; rfl
  · rw [if_neg h]
    have : IntOp.cmpi .eq w 0#32 = 0 := by
      show BitVec.ofBool (w == 0#32) = 0#1
      rw [beq_false_of_ne h]; rfl
    rw [this]; rfl

theorem s32_ne : Real.sqrt 32 ≠ 0 := (Real.sqrt_pos.2 (by norm_num)).ne'

theorem div_sqrt32 (x : ℝ) : FloatOps.hostDivf (F := Ideal) (φ := .f32) (x : EReal) (FloatOps.hostUnary (F := Ideal) (φ := .f32) .sqrt (cst 0x42000000#32))
    = ((x * (Real.sqrt 32)⁻¹ : ℝ) : EReal) := by
  rw [c32]
  show Ideal.div (x : EReal) (Ideal.sqrt ((32 : ℝ) : EReal)) = _
  rw [Ideal.sqrt_coe, if_neg (by norm_num), Ideal.div_coe s32_ne, ← EReal.coe_mul, one_div]

theorem rms_eq (X : ℕ → ℝ) (b : ℕ) :
    FloatOps.hostUnary (F := Ideal) (φ := .f32) .sqrt (FloatOps.hostDivf (F := Ideal) (φ := .f32) (cst 0x00000000#32 + ∑ k : Fin 32,
      ((accR X b k.val * (Real.sqrt 32)⁻¹ * (accR X b k.val * (Real.sqrt 32)⁻¹) : ℝ) : EReal)) (cst 0x42000000#32))
      = ((rms (sR X b) : ℝ) : EReal) := by
  rw [cst_zero, c32, coe_sum, ← EReal.coe_add, zero_add]
  have h : (∑ k : Fin 32, accR X b k.val * (Real.sqrt 32)⁻¹ * (accR X b k.val * (Real.sqrt 32)⁻¹)) = sR X b / 32 := by
    rw [sR, Finset.sum_div]
    refine Finset.sum_congr rfl fun k _ => ?_
    have := Real.mul_self_sqrt (show (0 : ℝ) ≤ 32 by norm_num)
    have h0 := s32_ne
    field_simp
    rw [Real.sq_sqrt (by norm_num)]
  rw [h]
  show Ideal.sqrt (Ideal.div _ _) = _
  have h0 := sR_nonneg X b
  rw [Ideal.div_coe (by norm_num), ← EReal.coe_mul, Ideal.sqrt_coe, if_neg (not_lt.2 (by positivity)), rms]
  congr 2
  ring

theorem a_eq (s : ℝ) : FloatOps.mulf (F := Ideal) (φ := .f32) (FloatOps.mulf (F := Ideal) (φ := .f32) (cst 0x403AE148#32) ((rms s : ℝ) : EReal)) (cst 0x3E2AAAAB#32)
    = ((aR s : ℝ) : EReal) := by
  rw [cst_alpha, cst_sixth]
  show (_ : EReal) * _ * _ = _
  rw [← EReal.coe_mul, ← EReal.coe_mul, aR]

section
variable (x1 : (⟨S7680x2880, .bf16⟩ : BufTy).Contents (Elt Ideal)) (X : ℕ → ℕ → ℝ)
  (hx : ∀ i : S7680x2880.Idx, x1 i = ((X (i 0).val (i 1).val : ℝ) : EReal))
include hx

theorem w_in (i : S7680x90x32.Idx) : val_main_v78 (F := Ideal) x1 i = ((X (i 0).val (32 * (i 1).val + (i 2).val) : ℝ) : EReal) := by
  have h1 : (i 1).val < 90 := (i 1).isLt
  have h2 : (i 2).val < 32 := (i 2).isLt
  rw [val_main_v78_apply, hx]
  have e0 : (idx_main_v78 i 0).val = (i 0).val := by
    show (((i 0).val * 90 + (i 1).val) * 32 + (i 2).val) / 2880 = _
    omega
  have e1 : (idx_main_v78 i 1).val = 32 * (i 1).val + (i 2).val := by
    show (((i 0).val * 90 + (i 1).val) * 32 + (i 2).val) % 2880 = _
    omega
  rw [e0, e1]

omit hx in
theorem w_sgn (i : S32x32.Idx) : val_main_v91 (F := Ideal) i = ((had (i 0).val (i 1).val : ℝ) : EReal) := by
  rw [val_main_v91_apply, val_main_v90_apply, val_main_v89_apply, val_main_v87_apply, val_main_v85_apply, val_main_v84_apply, val_main_v82_apply,
    val_main_v83_apply, val_main_v80_apply, val_main_v81_apply, val_main_v79_apply, val_main_v79_apply]
  exact sgn_eq (i 0).val (i 1).val

/-- The rotated block. -/
theorem w_acc (i : S7680x90x32.Idx) : val_main_v92 (F := Ideal) x1 i = ((accR (X (i 0).val) (i 1).val (i 2).val : ℝ) : EReal) := by
  rw [val_main_v92_apply, accR, ← coe_sum]
  refine Finset.sum_congr rfl fun k _ => ?_
  rw [w_in x1 X hx, w_sgn, ← EReal.coe_mul]

/-- The rotated block over the root of 32. -/
theorem w_rot (i : S7680x90x32.Idx) :
    val_main_v95 (F := Ideal) x1 i = ((accR (X (i 0).val) (i 1).val (i 2).val * (Real.sqrt 32)⁻¹ : ℝ) : EReal) := by
  rw [val_main_v95_apply, w_acc x1 X hx]
  exact div_sqrt32 _

/-- The root of the mean of the squares. -/
theorem w_rms (i : S7680x90.Idx) : val_main_v100 (F := Ideal) x1 i = ((rms (sR (X (i 0).val) (i 1).val) : ℝ) : EReal) := by
  rw [val_main_v100_apply, val_main_v99_apply, val_main_v97_apply]
  have h (k : Fin 32) : val_main_v96 (F := Ideal) x1 (idx_main_v97 i k)
      = ((accR (X (i 0).val) (i 1).val k.val * (Real.sqrt 32)⁻¹ * (accR (X (i 0).val) (i 1).val k.val * (Real.sqrt 32)⁻¹) : ℝ) : EReal) := by
    rw [val_main_v96_apply, w_rot x1 X hx]
    exact (EReal.coe_mul _ _).symm
  rw [Finset.sum_congr rfl fun k _ => h k]
  exact rms_eq (X (i 0).val) (i 1).val

/-- The estimate of the largest element. -/
theorem w_a (i : S7680x90.Idx) : val_main_v104 (F := Ideal) x1 i = ((aR (sR (X (i 0).val) (i 1).val) : ℝ) : EReal) := by
  rw [val_main_v104_apply, val_main_v102_apply, w_rms x1 X hx]
  exact a_eq _

/-- The exponent. -/
theorem w_e (i : S7680x90.Idx) : val_main_v113 (F := Ideal) x1 i = (((eB (sR (X (i 0).val) (i 1).val) : ℤ) : ℝ) : EReal) := by
  rw [val_main_v113_apply, val_main_v112_apply, val_main_v110_apply, val_main_call10_v2_apply, val_main_v109_apply, val_main_v108_apply,
    val_main_v105_apply, w_a x1 X hx, w_rms x1 X hx]
  exact refE_coe _

/-- The multiplier before rounding. -/
theorem w_inv (i : S7680x90.Idx) : val_main_v123 (F := Ideal) x1 i = ((invR (sR (X (i 0).val) (i 1).val) : ℝ) : EReal) := by
  rw [val_main_v123_apply, val_main_v119_apply, val_main_v122_apply, val_main_v120_apply, w_e x1 X hx]
  exact refInv_coe _

/-- The multiplier after rounding. -/
theorem w_scale (i : S7680x90.Idx) : val_main_v129 (F := Ideal) x1 i = ((scaleR (sR (X (i 0).val) (i 1).val) : ℝ) : EReal) := by
  rw [val_main_v129_apply, val_main_v128_apply, val_main_v125_apply, val_main_v127_apply, w_e x1 X hx]
  exact refScale_coe _

/-- The 4-bit float. -/
theorem w_q (i : S7680x90x32.Idx) : val_main_v149 (F := Ideal) x1 i
    = ((quantR (accR (X (i 0).val) (i 1).val (i 2).val * (invR (sR (X (i 0).val) (i 1).val) * (Real.sqrt 32)⁻¹)) : ℝ) : EReal) := by
  have h : val_main_v132 (F := Ideal) x1 i = ((accR (X (i 0).val) (i 1).val (i 2).val * (invR (sR (X (i 0).val) (i 1).val) * (Real.sqrt 32)⁻¹) : ℝ) : EReal) := by
    rw [val_main_v132_apply, val_main_v131_apply, val_main_v130_apply, w_inv x1 X hx, w_rot x1 X hx]
    show (_ : EReal) * _ = _
    rw [← EReal.coe_mul]
    congr 1
    show accR (X (i 0).val) (i 1).val (i 2).val * (Real.sqrt 32)⁻¹ * invR (sR (X (i 0).val) (i 1).val) = _
    ring
  rw [← refQ_coe, ← h]
  rw [val_main_v149_apply, val_main_v148_apply, val_main_v147_apply, val_main_v146_apply, val_main_v145_apply, val_main_v143_apply, val_main_v142_apply,
    val_main_v141_apply, val_main_v140_apply, val_main_v139_apply, val_main_v138_apply, val_main_v136_apply, val_main_v134_apply, val_main_v133_apply,
    val_main_call14_v2_apply]
  generalize val_main_v132 (F := Ideal) x1 i = c
  rfl

/-- The rows rounded and multiplied back. -/
theorem w_deq (i : S7680x2880.Idx) : val_main_v154 (F := Ideal) x1 i = ((deqR (X (i 0).val) (i 1).val : ℝ) : EReal) := by
  have h1 : (i 1).val < 2880 := (i 1).isLt
  have e0 : ((i 0).val * 2880 + (i 1).val) / 2880 = (i 0).val := by omega
  have e1 : ((i 0).val * 2880 + (i 1).val) / 32 % 90 = (i 1).val / 32 := by omega
  have e2 : ((i 0).val * 2880 + (i 1).val) % 32 = (i 1).val % 32 := by omega
  rw [val_main_v154_apply, val_main_v153_apply, val_main_v150_apply, val_main_v152_apply, val_main_v151_apply, w_scale x1 X hx, w_q x1 X hx]
  show ((_ : ℝ) : EReal) * ((_ : ℝ) : EReal) = _
  rw [← EReal.coe_mul]
  congr 1
  show quantR (accR (X (((i 0).val * 2880 + (i 1).val) / 2880)) (((i 0).val * 2880 + (i 1).val) / 32 % 90) (((i 0).val * 2880 + (i 1).val) % 32)
    * (invR (sR (X (((i 0).val * 2880 + (i 1).val) / 2880)) (((i 0).val * 2880 + (i 1).val) / 32 % 90)) * (Real.sqrt 32)⁻¹))
    * scaleR (sR (X (((i 0).val * 2880 + (i 1).val) / 2880)) (((i 0).val * 2880 + (i 1).val) / 32 % 90)) = _
  rw [e0, e1, e2, deqR]

/-- The scale codes. -/
theorem w_code (i : S7680x90.Idx) : val_main_v117 (F := Ideal) x1 i = codeR (X (i 0).val) (i 1).val := by
  rw [val_main_v117_apply, val_main_v116_apply, val_main_v115_apply, w_e x1 X hx]
  exact refCode_eq _

end

section
variable (x0 : (⟨S2x128x2880, .bf16⟩ : BufTy).Contents (Elt Ideal)) (X : ℕ → ℕ → ℝ)
  (hx : ∀ i : S256x2880.Idx, val_main_v0 (F := Ideal) x0 i = ((X (i 0).val (i 1).val : ℝ) : EReal))
include hx

theorem x_in (i : S256x90x32.Idx) : val_main_v1 (F := Ideal) x0 i = ((X (i 0).val (32 * (i 1).val + (i 2).val) : ℝ) : EReal) := by
  have h1 : (i 1).val < 90 := (i 1).isLt
  have h2 : (i 2).val < 32 := (i 2).isLt
  rw [val_main_v1_apply, hx]
  have e0 : (idx_main_v1 i 0).val = (i 0).val := by
    show (((i 0).val * 90 + (i 1).val) * 32 + (i 2).val) / 2880 = _
    omega
  have e1 : (idx_main_v1 i 1).val = 32 * (i 1).val + (i 2).val := by
    show (((i 0).val * 90 + (i 1).val) * 32 + (i 2).val) % 2880 = _
    omega
  rw [e0, e1]

omit hx in
theorem x_sgn (i : S32x32.Idx) : val_main_v14 (F := Ideal) i = ((had (i 0).val (i 1).val : ℝ) : EReal) := by
  rw [val_main_v14_apply, val_main_v13_apply, val_main_v12_apply, val_main_v10_apply, val_main_v8_apply, val_main_v7_apply, val_main_v5_apply,
    val_main_v6_apply, val_main_v3_apply, val_main_v4_apply, val_main_v2_apply, val_main_v2_apply]
  exact sgn_eq (i 0).val (i 1).val

/-- The rotated block. -/
theorem x_acc (i : S256x90x32.Idx) : val_main_v15 (F := Ideal) x0 i = ((accR (X (i 0).val) (i 1).val (i 2).val : ℝ) : EReal) := by
  rw [val_main_v15_apply, accR, ← coe_sum]
  refine Finset.sum_congr rfl fun k _ => ?_
  rw [x_in x0 X hx, x_sgn, ← EReal.coe_mul]

/-- The rotated block over the root of 32. -/
theorem x_rot (i : S256x90x32.Idx) :
    val_main_v18 (F := Ideal) x0 i = ((accR (X (i 0).val) (i 1).val (i 2).val * (Real.sqrt 32)⁻¹ : ℝ) : EReal) := by
  rw [val_main_v18_apply, x_acc x0 X hx]
  exact div_sqrt32 _

/-- The root of the mean of the squares. -/
theorem x_rms (i : S256x90.Idx) : val_main_v23 (F := Ideal) x0 i = ((rms (sR (X (i 0).val) (i 1).val) : ℝ) : EReal) := by
  rw [val_main_v23_apply, val_main_v22_apply, val_main_v20_apply]
  have h (k : Fin 32) : val_main_v19 (F := Ideal) x0 (idx_main_v20 i k)
      = ((accR (X (i 0).val) (i 1).val k.val * (Real.sqrt 32)⁻¹ * (accR (X (i 0).val) (i 1).val k.val * (Real.sqrt 32)⁻¹) : ℝ) : EReal) := by
    rw [val_main_v19_apply, x_rot x0 X hx]
    exact (EReal.coe_mul _ _).symm
  rw [Finset.sum_congr rfl fun k _ => h k]
  exact rms_eq (X (i 0).val) (i 1).val

/-- The estimate of the largest element. -/
theorem x_a (i : S256x90.Idx) : val_main_v27 (F := Ideal) x0 i = ((aR (sR (X (i 0).val) (i 1).val) : ℝ) : EReal) := by
  rw [val_main_v27_apply, val_main_v25_apply, x_rms x0 X hx]
  exact a_eq _

/-- The exponent. -/
theorem x_e (i : S256x90.Idx) : val_main_v36 (F := Ideal) x0 i = (((eB (sR (X (i 0).val) (i 1).val) : ℤ) : ℝ) : EReal) := by
  rw [val_main_v36_apply, val_main_v35_apply, val_main_v33_apply, val_main_call1_v2_apply, val_main_v32_apply, val_main_v31_apply,
    val_main_v28_apply, x_a x0 X hx, x_rms x0 X hx]
  exact refE_coe _

/-- The multiplier before rounding. -/
theorem x_inv (i : S256x90.Idx) : val_main_v46 (F := Ideal) x0 i = ((invR (sR (X (i 0).val) (i 1).val) : ℝ) : EReal) := by
  rw [val_main_v46_apply, val_main_v42_apply, val_main_v45_apply, val_main_v43_apply, x_e x0 X hx]
  exact refInv_coe _

/-- The multiplier after rounding. -/
theorem x_scale (i : S256x90.Idx) : val_main_v52 (F := Ideal) x0 i = ((scaleR (sR (X (i 0).val) (i 1).val) : ℝ) : EReal) := by
  rw [val_main_v52_apply, val_main_v51_apply, val_main_v48_apply, val_main_v50_apply, x_e x0 X hx]
  exact refScale_coe _

/-- The 4-bit float. -/
theorem x_q (i : S256x90x32.Idx) : val_main_v72 (F := Ideal) x0 i
    = ((quantR (accR (X (i 0).val) (i 1).val (i 2).val * (invR (sR (X (i 0).val) (i 1).val) * (Real.sqrt 32)⁻¹)) : ℝ) : EReal) := by
  have h : val_main_v55 (F := Ideal) x0 i = ((accR (X (i 0).val) (i 1).val (i 2).val * (invR (sR (X (i 0).val) (i 1).val) * (Real.sqrt 32)⁻¹) : ℝ) : EReal) := by
    rw [val_main_v55_apply, val_main_v54_apply, val_main_v53_apply, x_inv x0 X hx, x_rot x0 X hx]
    show (_ : EReal) * _ = _
    rw [← EReal.coe_mul]
    congr 1
    show accR (X (i 0).val) (i 1).val (i 2).val * (Real.sqrt 32)⁻¹ * invR (sR (X (i 0).val) (i 1).val) = _
    ring
  rw [← refQ_coe, ← h]
  rw [val_main_v72_apply, val_main_v71_apply, val_main_v70_apply, val_main_v69_apply, val_main_v68_apply, val_main_v66_apply, val_main_v65_apply,
    val_main_v64_apply, val_main_v63_apply, val_main_v62_apply, val_main_v61_apply, val_main_v59_apply, val_main_v57_apply, val_main_v56_apply,
    val_main_call5_v2_apply]
  generalize val_main_v55 (F := Ideal) x0 i = c
  rfl

/-- The rows rounded and multiplied back. -/
theorem x_deq (i : S256x2880.Idx) : val_main_v77 (F := Ideal) x0 i = ((deqR (X (i 0).val) (i 1).val : ℝ) : EReal) := by
  have h1 : (i 1).val < 2880 := (i 1).isLt
  have e0 : ((i 0).val * 2880 + (i 1).val) / 2880 = (i 0).val := by omega
  have e1 : ((i 0).val * 2880 + (i 1).val) / 32 % 90 = (i 1).val / 32 := by omega
  have e2 : ((i 0).val * 2880 + (i 1).val) % 32 = (i 1).val % 32 := by omega
  rw [val_main_v77_apply, val_main_v76_apply, val_main_v73_apply, val_main_v75_apply, val_main_v74_apply, x_scale x0 X hx, x_q x0 X hx]
  show ((_ : ℝ) : EReal) * ((_ : ℝ) : EReal) = _
  rw [← EReal.coe_mul]
  congr 1
  show quantR (accR (X (((i 0).val * 2880 + (i 1).val) / 2880)) (((i 0).val * 2880 + (i 1).val) / 32 % 90) (((i 0).val * 2880 + (i 1).val) % 32)
    * (invR (sR (X (((i 0).val * 2880 + (i 1).val) / 2880)) (((i 0).val * 2880 + (i 1).val) / 32 % 90)) * (Real.sqrt 32)⁻¹))
    * scaleR (sR (X (((i 0).val * 2880 + (i 1).val) / 2880)) (((i 0).val * 2880 + (i 1).val) / 32 % 90)) = _
  rw [e0, e1, e2, deqR]

end

/-- The product. -/
theorem y_eq (x0 : (⟨S2x128x2880, .bf16⟩ : BufTy).Contents (Elt Ideal)) (x1 : (⟨S7680x2880, .bf16⟩ : BufTy).Contents (Elt Ideal)) (X W : ℕ → ℕ → ℝ)
    (hx : ∀ i : S256x2880.Idx, val_main_v0 (F := Ideal) x0 i = ((X (i 0).val (i 1).val : ℝ) : EReal))
    (hw : ∀ i : S7680x2880.Idx, x1 i = ((W (i 0).val (i 1).val : ℝ) : EReal)) (i : S256x7680.Idx) :
    val_main_v156 (F := Ideal) x0 x1 i = ((∑ k : Fin 2880, deqR (X (i 0).val) k.val * deqR (W (i 1).val) k.val : ℝ) : EReal) := by
  rw [val_main_v156_apply, ← coe_sum]
  show val_main_v155 (F := Ideal) x0 x1 i = _
  rw [val_main_v155_apply]
  refine Finset.sum_congr rfl fun k _ => ?_
  rw [x_deq x0 X hx, w_deq x1 W hw, ← EReal.coe_mul]

end Cert.Quant.Ref
-- ==== Proof.Quant.Host.lean ====
/- What the kernel's host code leaves in the three input arrays: the block diagonal matrix of signs, the first argument
   as a matrix, and the second argument. -/
module

public import proofs.«01_k».proof.Proof.Named.Value
public import proofs.«01_k».proof.Proof.Quant.TileMath
public import proofs.«01_k».proof.Proof.Quant.Ref

@[expose] public section

noncomputable section

namespace Cert.KernelIdeal.Gen

open Cert.KernelIdeal Idealize.ShloMosaic Idealize.ShloMosaic.TcCoe Idealize.SL.Sem Idealize.ShloMosaic.StableHlo
open Cert.Quant

variable (m : (ℓ : Loc nD τ sig) → Buf (Elt Ideal) ℓ)

/-- The division by 32 rounded down, of a vector of words, as the host computes it. -/
def fdV (s : Shape) (bc : S_.BroadcastsInDim s (![] : Fin 0 → Fin s.rank)) (x : IVec s 32) : IVec s 32 :=
  select (andi (cmpi .ne (signi x) (broadcastInDim s ![] bc (signi (id (constantI S_ 32 32#32)))))
      (cmpi .ne (Host.remsi x (broadcastInDim s ![] bc (id (constantI S_ 32 32#32)))) (broadcastInDim s ![] bc (constantI S_ 32 0#32))))
    (subi (Host.divsi x (broadcastInDim s ![] bc (id (constantI S_ 32 32#32)))) (broadcastInDim s ![] bc (constantI S_ 32 1#32)))
    (Host.divsi x (broadcastInDim s ![] bc (id (constantI S_ 32 32#32))))

/-- The division of one word. -/
def fdS (w : BitVec 32) : BitVec 32 := fdV S256x1 bcast_S_S256x1 (fun _ => w) (ix2 0 0)

theorem fdV_row (x : IVec S256x1 32) (i : S256x1.Idx) : fdV S256x1 bcast_S_S256x1 x i = fdS (x i) := rfl
theorem fdV_col (x : IVec S1x256 32) (i : S1x256.Idx) : fdV S1x256 bcast_S_S1x256 x i = fdS (x i) := rfl

theorem fdS_eq : ∀ n : Fin 256, fdS (BitVec.ofNat 32 n.val) = BitVec.ofNat 32 (n.val / 32) := by decide +kernel

/-- The rows' and the columns' numbers. -/
def ioR : IVec S256x1 32 := broadcastInDim S256x1 ![0] bcast_S256_S256x1_0 (iotaInDim S256 32 0)
def ioC : IVec S1x256 32 := broadcastInDim S1x256 ![1] bcast_S256_S1x256_1 (iotaInDim S256 32 0)

/-- The matrix the host builds. -/
def hadV : FVec Ideal S256x256 .bf16 :=
  truncf .bf16 (select
    (cmpi .eq (broadcastInDim S256x256 ![0, 1] bcast_S256x1_S256x256_0_1 (fdV S256x1 bcast_S_S256x1 ioR))
      (broadcastInDim S256x256 ![0, 1] bcast_S1x256_S256x256_0_1 (fdV S1x256 bcast_S_S1x256 ioC)))
    (select
      (cmpi .eq (andi (ctpop (andi (andi (broadcastInDim S256x256 ![0, 1] bcast_S256x1_S256x256_0_1 ioR)
          (broadcastInDim S256x256 ![0, 1] bcast_S1x256_S256x256_0_1 ioC)) (broadcastInDim S256x256 ![] bcast_S_S256x256 (constantI S_ 32 31#32))))
        (broadcastInDim S256x256 ![] bcast_S_S256x256 (constantI S_ 32 1#32))) (broadcastInDim S256x256 ![] bcast_S_S256x256 (constantI S_ 32 0#32)))
      (broadcastInDim S256x256 ![] bcast_S_S256x256 (constant (F := Ideal) S_ .f32 0x3F800000#32))
      (broadcastInDim S256x256 ![] bcast_S_S256x256 (constant (F := Ideal) S_ .f32 0xBF800000#32)))
    (broadcastInDim S256x256 ![] bcast_S_S256x256 (constant (F := Ideal) S_ .f32 0x00000000#32))) bitsLt_bf16_f32

theorem row_at {α : Type} (x : S256x1.Idx → α) (a k : Fin 256) : broadcastInDim S256x256 ![0, 1] bcast_S256x1_S256x256_0_1 x (ix2 a k) = x (ix2 a 0) := by
  refine broadcastInDim_apply _ bcast_S256x1_S256x256_0_1 x (ix2 a k) (ix2 a (0 : Fin 1)) (fun b => ?_)
  match b with
  | ⟨0, _⟩ => rfl
  | ⟨1, _⟩ => rfl
theorem col_at {α : Type} (x : S1x256.Idx → α) (a k : Fin 256) : broadcastInDim S256x256 ![0, 1] bcast_S1x256_S256x256_0_1 x (ix2 a k) = x (ix2 0 k) := by
  refine broadcastInDim_apply _ bcast_S1x256_S256x256_0_1 x (ix2 a k) (ix2 (0 : Fin 1) k) (fun b => ?_)
  match b with
  | ⟨0, _⟩ => rfl
  | ⟨1, _⟩ => rfl
theorem ioR_at (a : Fin 256) : ioR (ix2 a 0) = BitVec.ofNat 32 a.val := by
  refine (broadcastInDim_apply _ bcast_S256_S256x1_0 (iotaInDim S256 32 0) (ix2 a (0 : Fin 1)) (ix1 a) (fun b => ?_)).trans rfl
  match b with
  | ⟨0, _⟩ => rfl
theorem ioC_at (a : Fin 256) : ioC (ix2 0 a) = BitVec.ofNat 32 a.val := by
  refine (broadcastInDim_apply _ bcast_S256_S1x256_1 (iotaInDim S256 32 0) (ix2 (0 : Fin 1) a) (ix1 a) (fun b => ?_)).trans rfl
  match b with
  | ⟨0, _⟩ => rfl

/-- The matrix, element by element. -/
theorem hadV_at (a k : Fin 256) : hadV (ix2 a k) = ((hadD a.val k.val : ℝ) : EReal) := by
  have h : hadV (ix2 a k) = Scalar.select (IntOp.cmpi .eq
        (broadcastInDim S256x256 ![0, 1] bcast_S256x1_S256x256_0_1 (fdV S256x1 bcast_S_S256x1 ioR) (ix2 a k))
        (broadcastInDim S256x256 ![0, 1] bcast_S1x256_S256x256_0_1 (fdV S1x256 bcast_S_S1x256 ioC) (ix2 a k)))
      (Scalar.select (IntOp.cmpi .eq (IntOp.andi (IntOp.ctpop (IntOp.andi (IntOp.andi
          (broadcastInDim S256x256 ![0, 1] bcast_S256x1_S256x256_0_1 ioR (ix2 a k))
          (broadcastInDim S256x256 ![0, 1] bcast_S1x256_S256x256_0_1 ioC (ix2 a k))) 31#32)) 1#32) 0#32)
        (cst 0x3F800000#32) (cst 0xBF800000#32)) (cst 0x00000000#32) := rfl
  rw [h, row_at, col_at, row_at, col_at, fdV_row, fdV_col, ioR_at, ioC_at, fdS_eq, fdS_eq]
  have e : IntOp.andi (IntOp.andi (BitVec.ofNat 32 a.val) (BitVec.ofNat 32 k.val)) 31#32
      = IntOp.andi (BitVec.ofNat 32 (a.val % 32)) (BitVec.ofNat 32 (k.val % 32)) := and31 a.val k.val
  have ha := a.isLt
  have hk := k.isLt
  rw [e, Cert.Quant.Ref.sgn_eq, hadD]
  by_cases q : a.val / 32 = k.val / 32
  · rw [q, if_pos rfl]
    have : IntOp.cmpi .eq (BitVec.ofNat 32 (k.val / 32)) (BitVec.ofNat 32 (k.val / 32)) = 1 := by
      show BitVec.ofBool _ = _
      simp
    rw [this]; rfl
  · rw [if_neg q, cst_zero]
    have : IntOp.cmpi .eq (BitVec.ofNat 32 (a.val / 32)) (BitVec.ofNat 32 (k.val / 32)) = 0 := by
      show BitVec.ofBool (BitVec.ofNat 32 (a.val / 32) == BitVec.ofNat 32 (k.val / 32)) = 0#1
      rw [beq_false_of_ne]
      · rfl
      · intro he
        have := congrArg BitVec.toNat he
        rw [BitVec.toNat_ofNat, BitVec.toNat_ofNat] at this
        omega
    rw [this]; rfl

set_option maxRecDepth 8192 in
set_option maxHeartbeats 2000000 in
/-- The first input array. -/
theorem V_v22 (c : Dev nD) : V m c main_v22 = hadV := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, TRef.nullary, TRef.binary, TRef.ternary, TRef.unary, TRef.toBuf, TRef.ofBuf, cast_eq]
  after_results_simp
  rfl

set_option maxRecDepth 8192 in
set_option maxHeartbeats 2000000 in
/-- The second input array. -/
theorem V_v23 (c : Dev nD) : V m c main_v23 = shapeCast S256x2880 (m ((c : Thread nD τ).loc main_arg0)) shapeCasts_S2x128x2880_S256x2880 := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, TRef.nullary, TRef.binary, TRef.ternary, TRef.unary, TRef.toBuf, TRef.ofBuf, cast_eq]
  after_results_simp
  rfl

/-- The first window's block is the whole matrix, at every point. -/
theorem iblk0_at (c : Dev nD) (t : Fin cfg0.N) : iblk m c 0 t = hadV := by
  rw [← V_v22 m c]
  funext y
  show V m c main_v22 (((cfg0.win 0).blk t).view.emb y) = V m c main_v22 y
  congr 1
  funext a; apply Fin.ext
  match a with
  | ⟨0, _⟩ => show 0 * 256 + 1 * (y 0).val = (y 0).val; omega
  | ⟨1, _⟩ => show 0 * 256 + 1 * (y 1).val = (y 1).val; omega

/-- The second window's block is the whole of x, at every point. -/
theorem iblk1_at (c : Dev nD) (t : Fin cfg0.N) :
    iblk m c 1 t = shapeCast S256x2880 (m ((c : Thread nD τ).loc main_arg0)) shapeCasts_S2x128x2880_S256x2880 := by
  rw [← V_v23 m c]
  funext y
  show V m c main_v23 (((cfg0.win 1).blk t).view.emb y) = V m c main_v23 y
  congr 1
  funext a; apply Fin.ext
  match a with
  | ⟨0, _⟩ => show 0 * 256 + 1 * (y 0).val = (y 0).val; omega
  | ⟨1, _⟩ => show 0 * 2880 + 1 * (y 1).val = (y 1).val; omega

theorem idx_facts2 : ∀ t : Fin cfg0.N, win0_2.index t (0 : Fin 2) = t.val ∧ win0_2.index t (1 : Fin 2) = 0 :=
  (by decide +kernel : ∀ t : Fin grid0.N, _)

/-- The third window's block at point `t` is rows `256 t` on of w. -/
theorem iblk2_at (c : Dev nD) (t : Fin cfg0.N) (r : Fin 256) (k : Fin 2880) (h : 256 * t.val + r.val < 7680) :
    iblk m c 2 t (ix2 r k) = m ((c : Thread nD τ).loc main_arg1) (ix2 ⟨256 * t.val + r.val, h⟩ k) := by
  obtain ⟨e0, e1⟩ := idx_facts2 t
  rw [← V_main_arg1 m c]
  show V m c main_arg1 (((cfg0.win 2).blk t).view.emb (ix2 r k)) = V m c main_arg1 _
  congr 1
  funext a; apply Fin.ext
  match a with
  | ⟨0, _⟩ => show win0_2.index t (0 : Fin 2) * 256 + 1 * r.val = 256 * t.val + r.val; rw [e0]; omega
  | ⟨1, _⟩ => show win0_2.index t (1 : Fin 2) * 2880 + 1 * k.val = k.val; rw [e1]; omega

end Cert.KernelIdeal.Gen
-- ==== Proof.Quant.Grid.lean ====
/- What the two results end holding: the products of the rounded rows, and the codes. -/
module

public import proofs.«01_k».proof.Proof.Quant.Stored
public import proofs.«01_k».proof.Proof.Quant.Host

@[expose] public section

noncomputable section

namespace Cert.KernelIdeal.Gen

open Cert.KernelIdeal Idealize.ShloMosaic Idealize.ShloMosaic.TcCoe Idealize.SL.Sem
open Cert.Quant Cert.KernelIdeal.Value

variable (m : (ℓ : Loc nD τ sig) → Buf (Elt Ideal) ℓ) (c : Dev nD) (X W : ℕ → ℕ → ℝ)
  (hx : ∀ (r : Fin 256) (k : Fin 2880), shapeCast S256x2880 (m ((c : Thread nD τ).loc main_arg0)) shapeCasts_S2x128x2880_S256x2880 (ix2 r k)
    = ((X r.val k.val : ℝ) : EReal))
  (hw : ∀ (r : Fin 7680) (k : Fin 2880), m ((c : Thread nD τ).loc main_arg1) (ix2 r k) = ((W r.val k.val : ℝ) : EReal))
include hx hw

/-- After grid point `n`: the products, the codes and the stored x rows. -/
theorem outsAt0_at (n : ℕ) (hn : n < cfg0.N) :
    (∀ r c' : Fin 256, (outsAt0 m c n hn).1 (ix2 r c') = ((∑ k ∈ Finset.range 2880, deqR (X r.val) k * deqR (W (256 * n + c'.val)) k : ℝ) : EReal))
    ∧ (∀ (r : Fin 256) (b : Fin 90), (outsAt0 m c n hn).2.1 (ix2 r b) = codeR (W (256 * n + r.val)) b.val)
    ∧ (∀ (r : Fin 256) (k : Fin 2880), (outsAt0 m c n hn).2.2 (ix2 r k) = ((deqR (X r.val) k.val : ℝ) : EReal)) := by
  have hN : ∀ {n}, n < cfg0.N → n < 30 := fun h => lt_of_lt_of_eq h (show cfg0.N = 30 from N_0)
  have h0 : ∀ (t : Fin cfg0.N) (a k : Fin 256), iblk m c 0 t (ix2 a k) = ((hadD a.val k.val : ℝ) : EReal) := fun t a k => by
    rw [iblk0_at]; exact hadV_at a k
  have h1 : ∀ (t : Fin cfg0.N) (r : Fin 256) (k : Fin 2880), iblk m c 1 t (ix2 r k) = ((X r.val k.val : ℝ) : EReal) := fun t r k => by
    rw [iblk1_at]; exact hx r k
  have h2 : ∀ (t : Fin cfg0.N) (r : Fin 256) (k : Fin 2880), iblk m c 2 t (ix2 r k)
      = (((fun r k => W (256 * t.val + r) k) r.val k.val : ℝ) : EReal) := fun t r k => by
    have ht := hN t.isLt
    rw [iblk2_at m c t r k (by omega)]; exact hw _ _
  induction n with
  | zero =>
    have e := outsAt0_A m c ⟨0, hn⟩ (Nat.zero_mod _)
    dsimp only at e
    rw [e]
    refine ⟨fun r c' => ?_, fun r b => ?_, fun r k => ?_⟩
    · dsimp only
      exact out0_A_3_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) (iblk m c 0 ⟨0, hn⟩) (iblk m c 1 ⟨0, hn⟩) (iblk m c 2 ⟨0, hn⟩) X (fun r k => W (256 * 0 + r) k) (h0 ⟨0, hn⟩) (h1 ⟨0, hn⟩) (h2 ⟨0, hn⟩) ((hcond0_0 ⟨0, hn⟩).mpr (Nat.zero_mod _)) r c'
    · dsimp only
      exact out0_A_9_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) (iblk m c 0 ⟨0, hn⟩) (iblk m c 1 ⟨0, hn⟩) (iblk m c 2 ⟨0, hn⟩) (fun r k => W (256 * 0 + r) k) (h0 ⟨0, hn⟩) (h2 ⟨0, hn⟩) ((hcond0_0 ⟨0, hn⟩).mpr (Nat.zero_mod _)) r b
    · dsimp only
      exact sout0_A_0_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) (iblk m c 0 ⟨0, hn⟩) (iblk m c 1 ⟨0, hn⟩) (iblk m c 2 ⟨0, hn⟩) X (h0 ⟨0, hn⟩) (h1 ⟨0, hn⟩) ((hcond0_0 ⟨0, hn⟩).mpr (Nat.zero_mod _)) r k
  | succ n ih =>
    have hn' := hN hn
    have hne : ¬ (n + 1) % 30 = 0 := by omega
    have e := outsAt0_B m c ⟨n + 1, hn⟩ hne
    dsimp only at e
    rw [e]
    have hs := (ih (Nat.lt_of_succ_lt hn)).2.2
    refine ⟨fun r c' => ?_, fun r b => ?_, fun r k => ?_⟩
    · dsimp only
      exact out0_B_3_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (iblk m c 0 ⟨n + 1, hn⟩) (iblk m c 1 ⟨n + 1, hn⟩) (iblk m c 2 ⟨n + 1, hn⟩) (outsAt0 m c n (Nat.lt_of_succ_lt hn)).2.2 X
        (fun r k => W (256 * (n + 1) + r) k) (h0 ⟨n + 1, hn⟩) (h2 ⟨n + 1, hn⟩) hs (fun h => hne ((hcond0_0 ⟨n + 1, hn⟩).mp h)) r c'
    · dsimp only
      exact out0_B_9_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (iblk m c 0 ⟨n + 1, hn⟩) (iblk m c 1 ⟨n + 1, hn⟩) (iblk m c 2 ⟨n + 1, hn⟩) (outsAt0 m c n (Nat.lt_of_succ_lt hn)).2.2
        (fun r k => W (256 * (n + 1) + r) k) (h0 ⟨n + 1, hn⟩) (h2 ⟨n + 1, hn⟩) (fun h => hne ((hcond0_0 ⟨n + 1, hn⟩).mp h)) r b
    · exact hs r k

/-- The first result: the products of the rounded rows. -/
theorem G3_at (i : S256x7680.Idx) :
    G3 m c i = ((∑ k : Fin 2880, deqR (X (i 0).val) k.val * deqR (W (i 1).val) k.val : ℝ) : EReal) := by
  have i0 : (i 0).val < 256 := (i 0).isLt
  have i1 : (i 1).val < 7680 := (i 1).isLt
  have hp : pt3Of i = (i 1).val / 256 := by
    show 30 * ((i 0).val / 256 - 0) + 1 * ((i 1).val / 256 - 0) = _
    omega
  have hlt : pt3Of i < cfg0.N := by rw [hp, show cfg0.N = 30 from N_0]; omega
  unfold G3
  rw [dif_pos hlt, ← outsAt0_sweep m c (pt3Of i) hlt]
  have hl : loc3Of i = ix2 (⟨(i 0).val % 256, by omega⟩ : Fin 256) (⟨(i 1).val % 256, by omega⟩ : Fin 256) := by
    funext a
    match a with
    | ⟨0, _⟩ => rfl
    | ⟨1, _⟩ => rfl
  rw [hl]
  refine ((outsAt0_at m c X W hx hw (pt3Of i) hlt).1 _ _).trans ?_
  dsimp only
  rw [show (i 0).val % 256 = (i 0).val by omega, show 256 * pt3Of i + (i 1).val % 256 = (i 1).val by omega]
  exact congrArg _ (Fin.sum_univ_eq_sum_range (fun k => deqR (X (i 0).val) k * deqR (W (i 1).val) k) 2880).symm

/-- The second result: the codes. -/
theorem G9_at (i : S7680x90.Idx) : G9 m c i = codeR (W (i 0).val) (i 1).val := by
  have i0 : (i 0).val < 7680 := (i 0).isLt
  have i1 : (i 1).val < 90 := (i 1).isLt
  have hp : pt9Of i = (i 0).val / 256 := by
    show 1 * ((i 0).val / 256 - 0) + 1 * ((i 1).val / 90 - 0) = _
    omega
  have hlt : pt9Of i < cfg0.N := by rw [hp, show cfg0.N = 30 from N_0]; omega
  unfold G9
  rw [dif_pos hlt, ← outsAt0_sweep m c (pt9Of i) hlt]
  have hl : loc9Of i = ix2 (⟨(i 0).val % 256, by omega⟩ : Fin 256) (⟨(i 1).val % 90, by omega⟩ : Fin 90) := by
    funext a
    match a with
    | ⟨0, _⟩ => rfl
    | ⟨1, _⟩ => rfl
  rw [hl]
  refine ((outsAt0_at m c X W hx hw (pt9Of i) hlt).2.1 _ _).trans ?_
  dsimp only
  rw [show (i 1).val % 90 = (i 1).val by omega, show 256 * pt9Of i + (i 0).val % 256 = (i 0).val by omega]

end Cert.KernelIdeal.Gen
-- ==== Proof.Quant.Equal.lean ====
/- The two programs end holding the same results. -/
module

public import proofs.«01_k».proof.Defs
public import proofs.«01_k».proof.Proof.Quant.Grid
public import proofs.«01_k».proof.Proof.Quant.Ref

@[expose] public section

noncomputable section

namespace Cert.Quant

open Idealize.ShloMosaic Idealize.ShloMosaic.TcCoe Idealize.SL.Sem

/-- The side conditions of the precondition. -/
theorem preFacts : Cert.Pre_finite.Facts := ⟨by decide, by decide⟩

/-- A number whose magnitude is below infinity is a real. -/
theorem real_of_abs (x : EReal)
    (h : FloatOps.cmpf (F := Ideal) (φ := .bf16) .olt (FloatOps.hostAbsf (F := Ideal) (φ := .bf16) x) (FloatOps.ofBits (F := Ideal) .bf16 0x7F80#16) = 1#1) :
    x = ((x.toReal : ℝ) : EReal) := by
  have ht : Ideal.ofBits .bf16 0x7F80#16 = (⊤ : EReal) := by simp [Ideal.ofBits, Ideal.ieee]
  change BitVec.ofBool (decide (max x (-x) < Ideal.ofBits .bf16 0x7F80#16)) = 1#1 at h
  rw [ht] at h
  have hlt : max x (-x) < ⊤ := by
    by_contra hc
    rw [decide_eq_false hc] at h
    exact absurd h (by decide)
  refine (EReal.coe_toReal (fun e => ?_) (fun e => ?_)).symm
  · subst e; simp at hlt
  · subst e; simp at hlt

variable (m : (ℓ : Loc Cert.KernelIdeal.nD Cert.KernelIdeal.τ Cert.KernelIdeal.sig) → Buf (Elt Ideal) ℓ)
  (hpre : Cert.Pre_KernelIdeal_finite (hPre_finite := preFacts) m) (c : Dev Cert.KernelIdeal.nD)

/-- The rows of the first argument, as reals. -/
def rowsX (r k : ℕ) : ℝ :=
  if h : r < 256 ∧ k < 2880 then
    (Cert.ReferenceIdeal.Read.val_main_v0 (F := Ideal) (m ((c.tc : Thread Cert.KernelIdeal.nD Cert.KernelIdeal.τ).loc Cert.KernelIdeal.main_arg0))
      (ix2 (⟨r, h.1⟩ : Fin 256) (⟨k, h.2⟩ : Fin 2880)) : EReal).toReal
  else 0

/-- The rows of the second argument, as reals. -/
def rowsW (r k : ℕ) : ℝ :=
  if h : r < 7680 ∧ k < 2880 then
    (m ((c.tc : Thread Cert.KernelIdeal.nD Cert.KernelIdeal.τ).loc Cert.KernelIdeal.main_arg1)
      (ix2 (⟨r, h.1⟩ : Fin 7680) (⟨k, h.2⟩ : Fin 2880)) : EReal).toReal
  else 0

include hpre

/-- The first argument holds those rows. -/
theorem rowsX_eq (i : Cert.ReferenceIdeal.S256x2880.Idx) :
    Cert.ReferenceIdeal.Read.val_main_v0 (F := Ideal) (m ((c.tc : Thread Cert.KernelIdeal.nD Cert.KernelIdeal.τ).loc Cert.KernelIdeal.main_arg0)) i
      = ((rowsX m c (i 0).val (i 1).val : ℝ) : EReal) := by
  have h0 : (i 0).val < 256 := (i 0).isLt
  have h1 : (i 1).val < 2880 := (i 1).isLt
  have hi : i = ix2 (⟨(i 0).val, h0⟩ : Fin 256) (⟨(i 1).val, h1⟩ : Fin 2880) := by
    funext a
    match a with
    | ⟨0, _⟩ => rfl
    | ⟨1, _⟩ => rfl
  unfold rowsX
  rw [dif_pos ⟨h0, h1⟩, ← hi, Cert.ReferenceIdeal.Read.val_main_v0_apply]
  exact real_of_abs _ (congrFun (hpre c).1 _)

/-- The second argument holds those rows. -/
theorem rowsW_eq (i : Cert.ReferenceIdeal.S7680x2880.Idx) :
    (m ((c.tc : Thread Cert.KernelIdeal.nD Cert.KernelIdeal.τ).loc Cert.KernelIdeal.main_arg1) i : EReal)
      = ((rowsW m c (i 0).val (i 1).val : ℝ) : EReal) := by
  have h0 : (i 0).val < 7680 := (i 0).isLt
  have h1 : (i 1).val < 2880 := (i 1).isLt
  have hi : i = ix2 (⟨(i 0).val, h0⟩ : Fin 7680) (⟨(i 1).val, h1⟩ : Fin 2880) := by
    funext a
    match a with
    | ⟨0, _⟩ => rfl
    | ⟨1, _⟩ => rfl
  unfold rowsW
  rw [dif_pos ⟨h0, h1⟩, ← hi]
  exact real_of_abs _ (congrFun (hpre c).2 _)

/-- The kernel's first result is the reference's. -/
theorem y_same : Cert.KernelIdeal.Value.G3 m c
    = Cert.ReferenceIdeal.Read.val_main_v156 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) :=
  funext fun i => (Cert.KernelIdeal.Gen.G3_at m c (rowsX m c) (rowsW m c) (fun r k => rowsX_eq m hpre c (ix2 r k))
    (fun r k => rowsW_eq m hpre c (ix2 r k)) i).trans
    (Ref.y_eq _ _ (rowsX m c) (rowsW m c) (rowsX_eq m hpre c) (rowsW_eq m hpre c) i).symm

/-- The kernel's second result is the reference's. -/
theorem ws_same : Cert.KernelIdeal.Value.G9 m c
    = Cert.ReferenceIdeal.Read.val_main_v117 (F := Ideal) (m ((c.tc : Thread Cert.KernelIdeal.nD Cert.KernelIdeal.τ).loc Cert.KernelIdeal.main_arg1)) :=
  funext fun i => (Cert.KernelIdeal.Gen.G9_at m c (rowsX m c) (rowsW m c) (fun r k => rowsX_eq m hpre c (ix2 r k))
    (fun r k => rowsW_eq m hpre c (ix2 r k)) i).trans
    (Ref.w_code _ (rowsW m c) (rowsW_eq m hpre c) i).symm

end Cert.Quant
-- ==== Proof.lean ====
module

public import proofs.«01_k».proof.Defs
public import proofs.«01_k».proof.Proof.Printed.Frame
public import proofs.«01_k».proof.Proof.Quant.Equal

@[expose] public section

open Idealize.ShloMosaic Idealize.SL.Sem

/-- The reference runs, leaves its arguments and every counter. -/
theorem Cert.Proof.frame_r : Cert.quiescent_ReferenceIdeal := by
  intro m ρ _
  exact (θ_run Cert.ReferenceIdeal.defs _ _).mono (fun r h => ⟨fun c => ⟨(h c).2.2.1, (h c).2.2.2⟩,
      sem_eq_zero_of_no_sems (by decide) r.2⟩)
    (Cert.ReferenceIdeal.Value.run (F := Ideal) m ρ)

/-- On finite arguments the idealized kernel and the reference end holding the same results. -/
theorem Cert.Proof.algebraic : Cert.algebraic_KernelIdeal_ReferenceIdeal_pre_finite (hPre_finite := Cert.Quant.preFacts) := by
  intro m g m' g' hpre hargs
  refine ⟨fun c => Cert.KernelIdeal.Value.G3 m c, fun c => Cert.KernelIdeal.Value.G9 m c, Cert.KernelIdeal.Value.run m g, ?_⟩
  refine (θ_run Cert.ReferenceIdeal.defs _ _).mono (fun r h c => ⟨?_, ?_, (h c).2.2.1, (h c).2.2.2⟩)
    (Cert.ReferenceIdeal.Value.run (F := Ideal) m' g')
  · refine ((h c).1.trans (Cert.ReferenceIdeal.Read.val_main_v156_eq _)).trans ?_
    exact (congrArg₂ (Cert.ReferenceIdeal.Read.val_main_v156 (F := Ideal)) (hargs c).1 (hargs c).2).trans (Cert.Quant.y_same m hpre c).symm
  · refine ((h c).2.1.trans (Cert.ReferenceIdeal.Read.val_main_v117_eq _)).trans ?_
    exact (congrArg (Cert.ReferenceIdeal.Read.val_main_v117 (F := Ideal)) (hargs c).2).trans (Cert.Quant.ws_same m hpre c).symm

/-- The frames of the program, of its idealized form and of the reference, the one rewrite between the first two (the
    constant `32^(-1/2)` is named), and the equality of the results of the last two. -/
theorem Cert.Proof.claim : Cert.Claim :=
  ⟨Cert.Kernel.Gen.facts, Cert.KernelIdeal.Gen.facts, Cert.ReferenceIdeal.Gen.facts, Cert.Quant.preFacts,
    fun m ρ _ => Cert.Kernel.Gen.frame m ρ,
    fun m ρ _ => Cert.KernelIdeal.Gen.frame m ρ,
    fun m ρ _ => Cert.KernelIdeal.Gen.frame m ρ,
    Cert.Proof.frame_r,
    fun m ρ _ => Cert.Proof.frame_r m ρ trivial,
    IdealRules.named_const.statement Cert.KernelIdeal.κ "inv_sqrt_32" .f32 0x3E3504F3#32
      (((Real.sqrt 32)⁻¹ : ℝ) : EReal) rfl,
    Cert.Proof.algebraic⟩
